-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S16384x256 : Shape := ⟨2, ![16384, 256]⟩
abbrev S4x1024x256 : Shape := ⟨3, ![4, 1024, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S16384x256 .f32) (main_arg1 : FVec F S4x1024x256 .f32) : IVec S4x1024x256 1 :=
  let main_v0 : FVec F S4x1024x256 .f32 := Host.absf main_arg1
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  main_v2
-- ==== Kernel.lean ====
abbrev S16384x256 : Shape := ⟨2, ![16384, 256]⟩
abbrev S4x1024x256 : Shape := ⟨3, ![4, 1024, 256]⟩
abbrev S_ : Shape := ⟨0, ![]⟩
abbrev S4x1024x768 : Shape := ⟨3, ![4, 1024, 768]⟩
abbrev S16384x4 : Shape := ⟨2, ![16384, 4]⟩
abbrev S1024x256 : Shape := ⟨2, ![1024, 256]⟩
abbrev S1024x4 : Shape := ⟨2, ![1024, 4]⟩
abbrev S4x1024 : Shape := ⟨2, ![4, 1024]⟩
abbrev S1x1024x768 : Shape := ⟨3, ![1, 1024, 768]⟩
abbrev S1024x768 : Shape := ⟨2, ![1024, 768]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x1024x256 : Shape := ⟨3, ![1, 1024, 256]⟩
abbrev S512x768 : Shape := ⟨2, ![512, 768]⟩
abbrev S512x4 : Shape := ⟨2, ![512, 4]⟩
abbrev S4x16384 : Shape := ⟨2, ![4, 16384]⟩

abbrev nBuf : Space → Nat
  | .hbm => 37
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S4x1024x256, .bf16⟩
  | .hbm, ⟨3, _⟩ => ⟨S4x1024x256, .f32⟩
  | .hbm, ⟨4, _⟩ => ⟨S_, .f32⟩
  | .hbm, ⟨5, _⟩ => ⟨S4x1024x256, .f32⟩
  | .hbm, ⟨6, _⟩ => ⟨S4x1024x256, .f32⟩
  | .hbm, ⟨7, _⟩ => ⟨S4x1024x256, .bf16⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .i1⟩
  | .hbm, ⟨12, _⟩ => ⟨S4x1024x256, .f32⟩
  | .hbm, ⟨13, _⟩ => ⟨S4x1024x256, .f32⟩
  | .hbm, ⟨14, _⟩ => ⟨S4x1024x256, .bf16⟩
  | .hbm, ⟨15, _⟩ => ⟨S4x1024x256, .f32⟩
  | .hbm, ⟨16, _⟩ => ⟨S_, .f32⟩
  | .hbm, ⟨17, _⟩ => ⟨S4x1024x256, .f32⟩
  | .hbm, ⟨18, _⟩ => ⟨S4x1024x256, .f32⟩
  | .hbm, ⟨19, _⟩ => ⟨S4x1024x256, .bf16⟩
  | .hbm, ⟨20, _⟩ => ⟨S4x1024x256, .f32⟩
  | .hbm, ⟨21, _⟩ => ⟨S4x1024x256, .f32⟩
  | .hbm, ⟨22, _⟩ => ⟨S4x1024x256, .f32⟩
  | .hbm, ⟨23, _⟩ => ⟨S4x1024x256, .i1⟩
  | .hbm, ⟨24, _⟩ => ⟨S4x1024x256, .f32⟩
  | .hbm, ⟨25, _⟩ => ⟨S4x1024x256, .f32⟩
  | .hbm, ⟨26, _⟩ => ⟨S4x1024x256, .bf16⟩
  | .hbm, ⟨27, _⟩ => ⟨S4x1024x256, .bf16⟩
  | .hbm, ⟨28, _⟩ => ⟨S4x1024x256, .bf16⟩
  | .hbm, ⟨29, _⟩ => ⟨S4x1024x768, .bf16⟩
  | .hbm, ⟨30, _⟩ => ⟨S_, .f32⟩
  | .hbm, ⟨31, _⟩ => ⟨S4x1024x256, .f32⟩
  | .hbm, ⟨32, _⟩ => ⟨S4x1024x256, .f32⟩
  | .hbm, ⟨33, _⟩ => ⟨S4x1024x256, .bf16⟩
  | .hbm, ⟨34, _⟩ => ⟨S16384x256, .f32⟩
  | .hbm, ⟨35, _⟩ => ⟨S16384x4, .i32⟩
  | .hbm, ⟨36, _⟩ => ⟨S4x16384, .i32⟩
  | .local _ .vmem, ⟨0, _⟩ => ⟨S1024x256, .f32⟩
  | .local _ .vmem, ⟨1, _⟩ => ⟨S1024x256, .f32⟩
  | .local _ .vmem, ⟨2, _⟩ => ⟨S4x1024x256, .bf16⟩
  | .local _ .vmem, ⟨3, _⟩ => ⟨S4x1024x768, .bf16⟩
  | .local _ .vmem, ⟨4, _⟩ => ⟨S1024x256, .f32⟩
  | .local _ .vmem, ⟨5, _⟩ => ⟨S1024x256, .f32⟩
  | .local _ .vmem, ⟨6, _⟩ => ⟨S1024x4, .i32⟩
  | .local _ .vmem, ⟨7, _⟩ => ⟨S1024x4, .i32⟩
  | .local _ .vmem, ⟨8, _⟩ => ⟨S4x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x256 : Shape := ⟨2, ![16384, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S1x16384 : Shape := ⟨2, ![1, 16384]⟩
abbrev S4x16384 : Shape := ⟨2, ![4, 16384]⟩

abbrev nBuf : Space → Nat
  | .hbm => 221
  | .vmem => 0
  | .smem => 0
  | _ => 0

abbrev hbmTy0_0 (i : Nat) : BufTy := match i % 128 with
  | 0 => ⟨S16384x256, .f32⟩
  | 1 => ⟨S4x1024x256, .f32⟩
  | 2 => ⟨S_, .f32⟩
  | 3 => ⟨S16384x256, .f32⟩
  | 4 => ⟨S1x1024x256, .f32⟩
  | 5 => ⟨S1024x256, .f32⟩
  | 6 => ⟨S16384x256, .f32⟩
  | 7 => ⟨S_, .f32⟩
  | 8 => ⟨S16384, .f32⟩
  | 9 => ⟨S16384x1, .f32⟩
  | 10 => ⟨S1024x256, .f32⟩
  | 11 => ⟨S_, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S256x1024, .f32⟩
  | 18 => ⟨S16384x1024, .f32⟩
  | 19 => ⟨S_, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S16384x1024, .i32⟩
  | 28 => ⟨S_, .f32⟩
  | 29 => ⟨S_, .i32⟩
  | 30 => ⟨S16384, .f32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x256, .f32⟩
  | 51 => ⟨S16384x256, .i1⟩
  | 52 => ⟨S_, .f32⟩
  | 53 => ⟨S16384x256, .f32⟩
  | 54 => ⟨S16384x256, .f32⟩
  | 55 => ⟨S16384x256, .f32⟩
  | 56 => ⟨S16384x256, .f32⟩
  | 57 => ⟨S1x1024x256, .f32⟩
  | 58 => ⟨S1024x256, .f32⟩
  | 59 => ⟨S16384x256, .f32⟩
  | 60 => ⟨S_, .f32⟩
  | 61 => ⟨S16384, .f32⟩
  | 62 => ⟨S16384x1, .f32⟩
  | 63 => ⟨S1024x256, .f32⟩
  | 64 => ⟨S_, .f32⟩
  | 65 => ⟨S1024, .f32⟩
  | 66 => ⟨S1x1024, .f32⟩
  | 67 => ⟨S16384x1024, .f32⟩
  | 68 => ⟨S16384x1024, .f32⟩
  | 69 => ⟨S16384x1024, .f32⟩
  | 70 => ⟨S256x1024, .f32⟩
  | 71 => ⟨S16384x1024, .f32⟩
  | 72 => ⟨S_, .f32⟩
  | 73 => ⟨S16384x1024, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x1024, .f32⟩
  | 80 => ⟨S16384x1024, .i32⟩
  | 81 => ⟨S_, .f32⟩
  | 82 => ⟨S_, .i32⟩
  | 83 => ⟨S16384, .f32⟩
  | 84 => ⟨S16384, .i32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x256, .f32⟩
  | 104 => ⟨S16384x256, .i1⟩
  | 105 => ⟨S_, .f32⟩
  | 106 => ⟨S16384x256, .f32⟩
  | 107 => ⟨S16384x256, .f32⟩
  | 108 => ⟨S16384x256, .f32⟩
  | 109 => ⟨S16384x256, .f32⟩
  | 110 => ⟨S1x1024x256, .f32⟩
  | 111 => ⟨S1024x256, .f32⟩
  | 112 => ⟨S16384x256, .f32⟩
  | 113 => ⟨S_, .f32⟩
  | 114 => ⟨S16384, .f32⟩
  | 115 => ⟨S16384x1, .f32⟩
  | 116 => ⟨S1024x256, .f32⟩
  | 117 => ⟨S_, .f32⟩
  | 118 => ⟨S1024, .f32⟩
  | 119 => ⟨S1x1024, .f32⟩
  | 120 => ⟨S16384x1024, .f32⟩
  | 121 => ⟨S16384x1024, .f32⟩
  | 122 => ⟨S16384x1024, .f32⟩
  | 123 => ⟨S256x1024, .f32⟩
  | 124 => ⟨S16384x1024, .f32⟩
  | 125 => ⟨S_, .f32⟩
  | 126 => ⟨S16384x1024, .f32⟩
  | 127 => ⟨S16384x1024, .f32⟩
  | _ => ⟨S16384x256, .f32⟩

abbrev hbmTy0_1 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S16384x1024, .f32⟩
  | 5 => ⟨S16384x1024, .i32⟩
  | 6 => ⟨S_, .f32⟩
  | 7 => ⟨S_, .i32⟩
  | 8 => ⟨S16384, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S1, .i32⟩
  | 19 => ⟨S_, .i32⟩
  | 20 => ⟨S16384x1, .i32⟩
  | 21 => ⟨S16384x1, .i1⟩
  | 22 => ⟨S1x1, .i32⟩
  | 23 => ⟨S16384x1, .i32⟩
  | 24 => ⟨S16384x1, .i1⟩
  | 25 => ⟨S16384x1, .i1⟩
  | 26 => ⟨S_, .i1⟩
  | 27 => ⟨S16384, .i1⟩
  | 28 => ⟨S16384x256, .f32⟩
  | 29 => ⟨S16384x256, .i1⟩
  | 30 => ⟨S_, .f32⟩
  | 31 => ⟨S16384x256, .f32⟩
  | 32 => ⟨S16384x256, .f32⟩
  | 33 => ⟨S16384x256, .f32⟩
  | 34 => ⟨S16384x256, .f32⟩
  | 35 => ⟨S1x1024x256, .f32⟩
  | 36 => ⟨S1024x256, .f32⟩
  | 37 => ⟨S16384x256, .f32⟩
  | 38 => ⟨S_, .f32⟩
  | 39 => ⟨S16384, .f32⟩
  | 40 => ⟨S16384x1, .f32⟩
  | 41 => ⟨S1024x256, .f32⟩
  | 42 => ⟨S_, .f32⟩
  | 43 => ⟨S1024, .f32⟩
  | 44 => ⟨S1x1024, .f32⟩
  | 45 => ⟨S16384x1024, .f32⟩
  | 46 => ⟨S16384x1024, .f32⟩
  | 47 => ⟨S16384x1024, .f32⟩
  | 48 => ⟨S256x1024, .f32⟩
  | 49 => ⟨S16384x1024, .f32⟩
  | 50 => ⟨S_, .f32⟩
  | 51 => ⟨S16384x1024, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S16384x1024, .f32⟩
  | 58 => ⟨S16384x1024, .i32⟩
  | 59 => ⟨S_, .f32⟩
  | 60 => ⟨S_, .i32⟩
  | 61 => ⟨S16384, .f32⟩
  | 62 => ⟨S16384, .i32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x256, .f32⟩
  | 82 => ⟨S16384x256, .i1⟩
  | 83 => ⟨S_, .f32⟩
  | 84 => ⟨S16384x256, .f32⟩
  | 85 => ⟨S16384x256, .f32⟩
  | 86 => ⟨S16384x256, .f32⟩
  | 87 => ⟨S16384x256, .f32⟩
  | 88 => ⟨S1x16384, .i32⟩
  | 89 => ⟨S1x16384, .i32⟩
  | 90 => ⟨S1x16384, .i32⟩
  | 91 => ⟨S1x16384, .i32⟩
  | 92 => ⟨S4x16384, .i32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v20 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call2_v0 : Ref sig .tc := ⟨.hbm, 80, rfl⟩
abbrev main_call2_cst : Ref sig .tc := ⟨.hbm, 81, rfl⟩
abbrev main_call2_c : Ref sig .tc := ⟨.hbm, 82, rfl⟩
abbrev main_call2_v1_0 : Ref sig .tc := ⟨.hbm, 83, rfl⟩
abbrev main_v43 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_8 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_9 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_10 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_cst_11 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_call4_v0 : Ref sig .tc := ⟨.hbm, 133, rfl⟩
abbrev main_call4_cst : Ref sig .tc := ⟨.hbm, 134, rfl⟩
abbrev main_call4_c : Ref sig .tc := ⟨.hbm, 135, rfl⟩
abbrev main_call4_v1_0 : Ref sig .tc := ⟨.hbm, 136, rfl⟩
abbrev main_v66 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_cst_12 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_cst_13 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_14 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_cst_15 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_call6_v0 : Ref sig .tc := ⟨.hbm, 186, rfl⟩
abbrev main_call6_cst : Ref sig .tc := ⟨.hbm, 187, rfl⟩
abbrev main_call6_c : Ref sig .tc := ⟨.hbm, 188, rfl⟩
abbrev main_call6_v1_0 : Ref sig .tc := ⟨.hbm, 189, rfl⟩
abbrev main_v89 : Ref sig .tc := ⟨.hbm, 190, rfl⟩
abbrev main_call7_c : Ref sig .tc := ⟨.hbm, 191, rfl⟩
abbrev main_call7_v0 : Ref sig .tc := ⟨.hbm, 192, rfl⟩
abbrev main_call7_v1 : Ref sig .tc := ⟨.hbm, 193, rfl⟩
abbrev main_call7_c_0 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_c_1 : Ref sig .tc := ⟨.hbm, 199, rfl⟩
abbrev main_call7_c_2 : Ref sig .tc := ⟨.hbm, 200, rfl⟩
abbrev main_call7_v6 : Ref sig .tc := ⟨.hbm, 201, rfl⟩
abbrev main_call7_v7 : Ref sig .tc := ⟨.hbm, 202, rfl⟩
abbrev main_call7_v8 : Ref sig .tc := ⟨.hbm, 203, rfl⟩
abbrev main_call7_v9 : Ref sig .tc := ⟨.hbm, 204, rfl⟩
abbrev main_call7_v10 : Ref sig .tc := ⟨.hbm, 205, rfl⟩
abbrev main_call7_v11 : Ref sig .tc := ⟨.hbm, 206, rfl⟩
abbrev main_call7_c_3 : Ref sig .tc := ⟨.hbm, 207, rfl⟩
abbrev main_call7_v12 : Ref sig .tc := ⟨.hbm, 208, rfl⟩
abbrev main_call7_v13 : Ref sig .tc := ⟨.hbm, 209, rfl⟩
abbrev main_call7_v14 : Ref sig .tc := ⟨.hbm, 210, rfl⟩
abbrev main_call7_cst : Ref sig .tc := ⟨.hbm, 211, rfl⟩
abbrev main_call7_v15 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩

abbrev nD : Nat := 1
abbrev τ : Topo := Topo.v7x

variable {F : FTy → Type} [FloatOps F]
-- ==== Proof.Scalars.lean ====
module

public import Idealize.ShloMosaic.Lib.Pointwise

/-! # Constants and conversions the kernel meets

What the printed constants denote, and what the conversions between column numbers and floats do. -/

@[expose] public section

noncomputable section

namespace Cert.Rvq

open Idealize.ShloMosaic

/-- The pattern of `+∞` denotes `⊤`. -/
theorem ofBits_inf : Ideal.ofBits .f32 0x7F800000#32 = ⊤ := by
  simp [Ideal.ofBits, Ideal.ieee]

/-- The pattern of `1024.0` denotes 1024. -/
theorem ofBits_1024 : Ideal.ofBits .f32 0x44800000#32 = ((1024 : ℝ) : EReal) := by
  simp [Ideal.ofBits, Ideal.ieee]
  norm_num
  rw [← EReal.coe_mul]
  norm_num

/-- The pattern of `2.0` denotes 2. -/
theorem ofBits_2 : Ideal.ofBits .f32 0x40000000#32 = 2 := by
  simp [Ideal.ofBits, Ideal.ieee]
  norm_num
  rw [← EReal.coe_mul]
  norm_num
  rfl

/-- A column number, converted to a float, is itself. -/
theorem sitofp_column (k : Fin 1024) :
    FloatOps.sitofp (F := Ideal) .f32 (BitVec.ofNat 32 k.val) = ((k.val : ℝ) : EReal) := by
  show (((BitVec.ofNat 32 k.val).toInt : ℝ) : EReal) = _
  have : (BitVec.ofNat 32 k.val).toInt = (k.val : ℤ) := by
    rw [BitVec.toInt_eq_toNat_of_lt] <;> rw [BitVec.toNat_ofNat, Nat.mod_eq_of_lt (by omega)]
    omega
  rw [this]
  norm_cast

/-- A truth value, widened and converted to a float, is 1 or 0. -/
theorem sitofp_truth (b : Bool) :
    FloatOps.sitofp (F := Ideal) .f32 (BitVec.setWidth 32 (BitVec.ofBool b)) = if b then 1 else 0 := by
  show (((BitVec.setWidth 32 (BitVec.ofBool b)).toInt : ℝ) : EReal) = _
  cases b
  · show (((0 : ℤ) : ℝ) : EReal) = _
    simp
  · show (((1 : ℤ) : ℝ) : EReal) = _
    simp

/-- A column number converted back to an integer word. -/
theorem fptosi_column (k : Fin 1024) :
    FloatOps.fptosi (F := Ideal) (φ := .f32) 32 ((k.val : ℝ) : EReal) = BitVec.ofNat 32 k.val := by
  have hr : Ideal.toIntClamped (-(2 ^ (32 - 1) : Nat)) ((2 ^ (32 - 1) : Nat) - 1) ((k.val : ℝ) : EReal) = (k.val : ℤ) := by
    have hk : (k.val : ℤ) < 1024 := by exact_mod_cast k.isLt
    rw [Ideal.toIntClamped_coe, if_pos (Nat.cast_nonneg _), Int.floor_natCast, min_eq_right, max_eq_right]
    · exact le_trans (by norm_num) (Int.natCast_nonneg _)
    · exact le_trans hk.le (by norm_num)
  show BitVec.ofInt 32 _ = _
  rw [hr]
  rfl

end Cert.Rvq

end
-- ==== Proof.Precondition.lean ====
module

public import proofs.«01_k».proof.Defs
public import proofs.«01_k».proof.Proof.Scalars

/-! # What the precondition says

The predicate compares the absolute value of every codebook entry with `+∞`. Where it holds the
entry is a real number. -/

@[expose] public section

noncomputable section

namespace Cert.Rvq

open Idealize.ShloMosaic

/-- The side conditions of the predicate hold. -/
theorem preFacts : Cert.Pre_finite_codebooks.Facts where
  bcast_S_S4x1024x256 := by decide

/-- An extended real of absolute value below `⊤` is a real number. -/
theorem real_of_abs_lt_top {x : EReal} (h : max x (-x) < ⊤) : ∃ y : ℝ, x = y := by
  induction x with
  | bot => simp at h
  | top => simp at h
  | coe y => exact ⟨y, rfl⟩

/-- Where the predicate holds, every codebook entry is a real number. -/
theorem finite_of_pre [Cert.Pre_finite_codebooks.Facts] (x : FVec Ideal Cert.Pre_finite_codebooks.S16384x256 .f32)
    (cb : FVec Ideal Cert.Pre_finite_codebooks.S4x1024x256 .f32)
    (h : Cert.Pre_finite_codebooks.fn (F := Ideal) x cb = fun _ => 1#1) (i : Cert.Pre_finite_codebooks.S4x1024x256.Idx) :
    ∃ y : ℝ, cb i = y := by
  refine real_of_abs_lt_top ?_
  have hi : Ideal.cmp .olt (max (cb i) (-cb i)) (Ideal.ofBits .f32 0x7F800000#32) = 1#1 := congrFun h i
  rw [ofBits_inf] at hi
  by_contra hn
  simp [Ideal.cmp, hn] at hi

end Cert.Rvq

end
-- ==== Proof.FirstMin.lean ====
module

public import Idealize.ShloMosaic.Lib.Pointwise

/-! # The first position of a least value

A codebook has 1024 rows, so the distances of one feature row to a codebook form a function
`Fin 1024 → EReal`. This file fixes what the argmin of such a function is, shows that it exists and
is unique, that it depends on the ORDER of the values only, and that the two-pass search the kernel
makes (the least value first, then the least column that attains it) finds it. -/

@[expose] public section

noncomputable section

namespace Cert.Rvq

/-- Position `i` is the first at which `d` takes its least value: no value lies below `d i`, and
    every value before position `i` lies strictly above it. -/
def IsFirstMin (d : Fin 1024 → EReal) (i : Fin 1024) : Prop :=
  (∀ k, d i ≤ d k) ∧ ∀ k, k < i → d i < d k

/-- Two first positions of the least value are equal. -/
theorem IsFirstMin.unique {d : Fin 1024 → EReal} {i j : Fin 1024} (hi : IsFirstMin d i) (hj : IsFirstMin d j) :
    i = j := by
  rcases lt_trichotomy i j with h | h | h
  · exact absurd (hi.1 j) (not_le.mpr (hj.2 i h))
  · exact h
  · exact absurd (hj.1 i) (not_le.mpr (hi.2 j h))

/-- There is a first position of the least value. -/
theorem exists_isFirstMin (d : Fin 1024 → EReal) : ∃ i, IsFirstMin d i := by
  classical
  obtain ⟨a, -, ha⟩ := Finset.exists_min_image (Finset.univ : Finset (Fin 1024)) d ⟨0, Finset.mem_univ _⟩
  have hne : (Finset.univ.filter fun i => ∀ k, d i ≤ d k).Nonempty :=
    ⟨a, by simpa using fun k => ha k (Finset.mem_univ _)⟩
  refine ⟨(Finset.univ.filter fun i => ∀ k, d i ≤ d k).min' hne, ?_, ?_⟩
  · exact (Finset.mem_filter.mp (Finset.min'_mem _ hne)).2
  · intro k hk
    have hmin := (Finset.mem_filter.mp (Finset.min'_mem _ hne)).2
    refine lt_of_le_of_ne (hmin k) fun he => ?_
    have : k ∈ Finset.univ.filter fun i => ∀ k, d i ≤ d k :=
      Finset.mem_filter.mpr ⟨Finset.mem_univ _, fun l => he ▸ hmin l⟩
    exact absurd (Finset.min'_le _ _ this) (not_le.mpr hk)

/-- The first position at which `d` takes its least value. -/
def firstMin (d : Fin 1024 → EReal) : Fin 1024 := Classical.choose (exists_isFirstMin d)

/-- `firstMin d` is a first position of the least value. -/
theorem firstMin_spec (d : Fin 1024 → EReal) : IsFirstMin d (firstMin d) := Classical.choose_spec (exists_isFirstMin d)

/-- A first position of the least value is `firstMin d`. -/
theorem IsFirstMin.eq {d : Fin 1024 → EReal} {i : Fin 1024} (h : IsFirstMin d i) : i = firstMin d :=
  h.unique (firstMin_spec d)

/-- Only the order of the values matters: two functions that compare alike have the same first
    position of the least value. -/
theorem firstMin_congr {d e : Fin 1024 → EReal} (h : ∀ i k, d i ≤ d k ↔ e i ≤ e k) : firstMin d = firstMin e := by
  refine IsFirstMin.eq ⟨fun k => (h _ _).mp ((firstMin_spec d).1 k), fun k hk => ?_⟩
  have := (firstMin_spec d).2 k hk
  rw [← not_le] at this ⊢
  exact fun hle => this ((h _ _).mpr hle)

/-- A minimum taken over the whole axis from `⊤` is the value at the first position of the least value. -/
theorem fold_min_eq (d : Fin 1024 → EReal) : Finset.fold min ⊤ d Finset.univ = d (firstMin d) := by
  refine le_antisymm ?_ ?_
  · exact Finset.fold_min_le _ |>.mpr (.inr ⟨firstMin d, Finset.mem_univ _, le_rfl⟩)
  · exact Finset.le_fold_min _ |>.mpr ⟨le_top, fun k _ => (firstMin_spec d).1 k⟩

/-- The second pass of the search. Each column that attains the least value stands for its own
    number, every other for a number past the end; the least of these is the first position of the
    least value. -/
theorem fold_min_columns (d : Fin 1024 → EReal) (col : Fin 1024 → EReal) (far : EReal)
    (hcol : ∀ k, col k = ((k.val : ℝ) : EReal)) (hfar : far = ((1024 : ℝ) : EReal)) :
    Finset.fold min ⊤ (fun k => if d k = d (firstMin d) then col k else far) Finset.univ
      = (((firstMin d).val : ℝ) : EReal) := by
  refine le_antisymm ?_ ?_
  · refine Finset.fold_min_le _ |>.mpr (.inr ⟨firstMin d, Finset.mem_univ _, ?_⟩)
    rw [if_pos rfl, hcol]
  · refine Finset.le_fold_min _ |>.mpr ⟨le_top, fun k _ => ?_⟩
    split
    · rename_i h
      rw [hcol, EReal.coe_le_coe_iff, Nat.cast_le]
      by_contra hlt
      exact absurd h (ne_of_gt ((firstMin_spec d).2 k (Fin.lt_def.mpr (not_le.mp hlt))))
    · rw [hfar, EReal.coe_le_coe_iff]
      exact_mod_cast (firstMin d).isLt.le

end Cert.Rvq

end
-- ==== Proof.Distance.lean ====
module

public import proofs.«01_k».proof.Proof.FirstMin

/-! # The two distances pick the same codebook row

The reference measures `√(max(‖r‖² + ‖c‖² − 2⟨r, c⟩, 0))`, the kernel `√((‖r‖² + ‖c‖²) − ⟨r, 2c⟩)`
without the clamp. For a codebook of finite entries the two have the same argmin, whatever the
row `r` is: where `r` is finite the radicand is a sum of squares and the clamp does nothing; where
`r` has an infinite entry the radicand is `⊤` or `⊥` throughout, and both distances order those two
alike. -/

@[expose] public section

noncomputable section

namespace Cert.Rvq

open Idealize.ShloMosaic

/-- The radicand of both distances: `‖r‖² + ‖c‖² − 2⟨r, c⟩`. -/
def radicand (r c : Fin 256 → EReal) : EReal :=
  (∑ j, r j * r j + ∑ j, c j * c j) - 2 * ∑ j, r j * c j

/-- The reference's distance: the radicand clamped at zero before the square root. -/
def refDist (r : Fin 256 → EReal) (c : Fin 1024 → Fin 256 → EReal) (k : Fin 1024) : EReal :=
  Ideal.sqrt (max (radicand r (c k)) 0)

/-- The kernel's distance: no clamp. -/
def kerDist (r : Fin 256 → EReal) (c : Fin 1024 → Fin 256 → EReal) (k : Fin 1024) : EReal :=
  Ideal.sqrt (radicand r (c k))

/-- A factor 2 may stand before a finite sum or inside it. -/
theorem two_mul_sum {n : ℕ} (f : Fin n → EReal) : 2 * ∑ j, f j = ∑ j, 2 * f j := by
  classical
  induction (Finset.univ : Finset (Fin n)) using Finset.induction_on with
  | empty => simp
  | insert a s ha ih =>
    rw [Finset.sum_insert ha, Finset.sum_insert ha,
      EReal.left_distrib_of_nonneg_of_ne_top (by norm_num) (by exact EReal.coe_ne_top 2), ih]

/-- The kernel contracts with the doubled codebook; that is twice the inner product. -/
theorem sum_mul_doubled (r c : Fin 256 → EReal) : ∑ j, r j * (c j * 2) = 2 * ∑ j, r j * c j := by
  rw [two_mul_sum]
  refine Finset.sum_congr rfl fun j _ => ?_
  rw [← mul_assoc, mul_comm]

/-- A finite sum of real numbers is the same in the extended reals. -/
theorem coe_sum {n : ℕ} (f : Fin n → ℝ) : ((∑ j, f j : ℝ) : EReal) = ∑ j, (f j : EReal) :=
  map_sum (⟨⟨Real.toEReal, rfl⟩, fun _ _ => rfl⟩ : ℝ →+ EReal) _ _

/-- For finite rows the radicand is `‖r − c‖²`, so it is not negative. -/
theorem radicand_nonneg (r c : Fin 256 → ℝ) : 0 ≤ radicand (fun j => (r j : EReal)) (fun j => (c j : EReal)) := by
  have h : radicand (fun j => (r j : EReal)) (fun j => (c j : EReal)) = ((∑ j, (r j - c j) ^ 2 : ℝ) : EReal) := by
    have e : (∑ j, (r j - c j) ^ 2 : ℝ) = (∑ j, r j * r j + ∑ j, c j * c j) - 2 * ∑ j, r j * c j := by
      rw [Finset.mul_sum, ← Finset.sum_add_distrib, ← Finset.sum_sub_distrib]
      exact Finset.sum_congr rfl fun j _ => by ring
    rw [e, radicand, EReal.coe_sub, EReal.coe_add, EReal.coe_mul, coe_sum, coe_sum, coe_sum]
    simp only [EReal.coe_mul]
    rfl
  rw [h]
  exact EReal.coe_nonneg.mpr (Finset.sum_nonneg fun j _ => sq_nonneg _)

/-- A square is not negative, in the extended reals too. -/
theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- A sum of squares with an infinite term is `⊤`. -/
theorem sum_sq_top (r : Fin 256 → EReal) (j : Fin 256) (hj : r j = ⊤ ∨ r j = ⊥) : ∑ j, r j * r j = ⊤ := by
  classical
  have ht : r j * r j = ⊤ := by rcases hj with h | h <;> rw [h] <;> rfl
  refine top_le_iff.mp (ht ▸ ?_)
  exact Finset.single_le_sum (f := fun j => r j * r j) (fun i _ => mul_self_nonneg' _) (Finset.mem_univ j)

/-- The radicand with an infinite entry in `r` is `⊤` or `⊥`. -/
theorem radicand_top_or_bot (r c : Fin 256 → EReal) (j : Fin 256) (hj : r j = ⊤ ∨ r j = ⊥) :
    radicand r c = ⊤ ∨ radicand r c = ⊥ := by
  have hs : (⊤ : EReal) + ∑ j, c j * c j = ⊤ :=
    EReal.top_add_of_ne_bot (ne_of_gt (lt_of_lt_of_le EReal.bot_lt_zero (Finset.sum_nonneg fun i _ => mul_self_nonneg' _)))
  rw [radicand, sum_sq_top r j hj, hs]
  induction (2 * ∑ j, r j * c j) with
  | bot => left; rfl
  | top => right; rfl
  | coe x => left; exact EReal.top_sub_coe x

/-- Where the clamp matters at all, it keeps the order: the two distances compare alike. -/
theorem dist_le_iff (r : Fin 256 → EReal) (c : Fin 1024 → Fin 256 → EReal)
    (hc : ∀ k j, ∃ x : ℝ, c k j = x) (i k : Fin 1024) :
    kerDist r c i ≤ kerDist r c k ↔ refDist r c i ≤ refDist r c k := by
  by_cases hr : ∃ j, r j = ⊤ ∨ r j = ⊥
  · obtain ⟨j, hj⟩ := hr
    have key : ∀ x y : EReal, (x = ⊤ ∨ x = ⊥) → (y = ⊤ ∨ y = ⊥) →
        (Ideal.sqrt x ≤ Ideal.sqrt y ↔ Ideal.sqrt (max x 0) ≤ Ideal.sqrt (max y 0)) := by
      have h0 : Ideal.sqrt 0 = 0 := by
        show (if (0 : ℝ) < 0 then ⊥ else ((Real.sqrt 0 : ℝ) : EReal)) = 0
        simp
      have ht : Ideal.sqrt ⊤ = ⊤ := rfl
      have hb : Ideal.sqrt ⊥ = ⊥ := rfl
      rintro x y (rfl | rfl) (rfl | rfl) <;> simp [h0, ht, hb]
    exact key _ _ (radicand_top_or_bot r _ j hj) (radicand_top_or_bot r _ j hj)
  · push Not at hr
    have hR : ∃ r' : Fin 256 → ℝ, r = fun j => (r' j : EReal) :=
      ⟨fun j => (r j).toReal, funext fun j => (EReal.coe_toReal (hr j).1 (hr j).2).symm⟩
    obtain ⟨r', rfl⟩ := hR
    have e : ∀ k, kerDist (fun j => (r' j : EReal)) c k = refDist (fun j => (r' j : EReal)) c k := by
      intro k
      obtain ⟨c', hc'⟩ : ∃ c' : Fin 256 → ℝ, c k = fun j => (c' j : EReal) :=
        ⟨fun j => Classical.choose (hc k j), funext fun j => Classical.choose_spec (hc k j)⟩
      rw [kerDist, refDist, hc', max_eq_left (radicand_nonneg r' c')]
    rw [e, e]

/-- The codebook row the reference picks for a feature row. -/
def refPick (r : Fin 256 → EReal) (c : Fin 1024 → Fin 256 → EReal) : Fin 1024 := firstMin (refDist r c)

/-- The codebook row the kernel picks for a feature row. -/
def kerPick (r : Fin 256 → EReal) (c : Fin 1024 → Fin 256 → EReal) : Fin 1024 := firstMin (kerDist r c)

/-- Over a finite codebook both pick the same row, whatever the feature row holds. -/
theorem kerPick_eq_refPick (r : Fin 256 → EReal) (c : Fin 1024 → Fin 256 → EReal)
    (hc : ∀ k j, ∃ x : ℝ, c k j = x) : kerPick r c = refPick r c :=
  firstMin_congr fun i k => dist_le_iff r c hc i k

end Cert.Rvq

end
-- ==== Proof.Chain.lean ====
module

public import proofs.«01_k».proof.Proof.Distance

/-! # Residual quantization of one feature row

Level `l` picks the row of codebook `l` that is nearest to the residual, adds it to the running sum
and takes it from the residual. The recursion is stated once, over the rule that picks; the
reference and the kernel are its instances at `refPick` and `kerPick`. -/

@[expose] public section

noncomputable section

namespace Cert.Rvq

/-- A codebook: 1024 rows of 256 entries. -/
abbrev Book := Fin 1024 → Fin 256 → EReal

/-- A rule that picks a codebook row for a feature row. -/
abbrev Rule := (Fin 256 → EReal) → Book → Fin 1024

/-- The residual of row `x` before level `n`. -/
def resid (pick : Rule) (C : ℕ → Book) (x : Fin 256 → EReal) : ℕ → Fin 256 → EReal
  | 0 => x
  | n + 1 => fun j => resid pick C x n j - C n (pick (resid pick C x n) (C n)) j

/-- The codebook row picked for `x` at level `n`. -/
def chosen (pick : Rule) (C : ℕ → Book) (x : Fin 256 → EReal) (n : ℕ) : Fin 1024 :=
  pick (resid pick C x n) (C n)

/-- The sum of the codebook rows picked for `x` at the levels before `n`. -/
def quantized (pick : Rule) (C : ℕ → Book) (x : Fin 256 → EReal) : ℕ → Fin 256 → EReal
  | 0 => fun _ => 0
  | n + 1 => fun j => quantized pick C x n j + C n (chosen pick C x n) j

/-- A family of codebooks is finite when every entry is a real number. -/
def FiniteBooks (C : ℕ → Book) : Prop := ∀ l k j, ∃ x : ℝ, C l k j = x

/-- Over finite codebooks the kernel's residuals are the reference's. -/
theorem resid_ker_eq_ref {C : ℕ → Book} (hC : FiniteBooks C) (x : Fin 256 → EReal) (n : ℕ) :
    resid kerPick C x n = resid refPick C x n := by
  induction n with
  | zero => rfl
  | succ n ih => simp only [resid, ih, kerPick_eq_refPick _ _ (hC n)]

/-- Over finite codebooks the kernel picks what the reference picks. -/
theorem chosen_ker_eq_ref {C : ℕ → Book} (hC : FiniteBooks C) (x : Fin 256 → EReal) (n : ℕ) :
    chosen kerPick C x n = chosen refPick C x n := by
  simp only [chosen, resid_ker_eq_ref hC, kerPick_eq_refPick _ _ (hC n)]

/-- Over finite codebooks the kernel's sum of picked rows is the reference's. -/
theorem quantized_ker_eq_ref {C : ℕ → Book} (hC : FiniteBooks C) (x : Fin 256 → EReal) (n : ℕ) :
    quantized kerPick C x n = quantized refPick C x n := by
  induction n with
  | zero => rfl
  | succ n ih => simp only [quantized, ih, chosen_ker_eq_ref hC]

end Cert.Rvq

end
-- ==== Proof.Level.lean ====
module

public import proofs.«01_k».proof.Proof.Gen.KernelIdeal.Skeleton
public import proofs.«01_k».proof.Proof.Chain
public import proofs.«01_k».proof.Proof.Scalars

/-! # What one level of the kernel computes for 512 rows

The kernel runs each level on 512 rows at once: it contracts the residuals with the doubled
codebook, searches the least distance, makes a one-hot matrix of the chosen columns and contracts
that with the codebook's three planes. Here the level is read at one row: the search returns
`kerPick` of that row, the contraction returns the codebook row of that number. -/

@[expose] public section

set_option maxRecDepth 16384

noncomputable section

namespace Cert.Rvq

open Idealize.ShloMosaic Cert.KernelIdeal Cert.KernelIdeal.Gen

/-- Row `p` of a matrix of 512 rows. -/
abbrev row512 (x : Vec Ideal S512x256 .f32) (p : Fin 512) : Fin 256 → EReal := fun j => x (ix2 p j)

/-- The matrix of column numbers, at row `p` and column `k`. -/
theorem columns_apply (p : Fin 512) (k : Fin 1024) :
    k0_pay8 (F := Ideal) (ix2 p k) = ((k.val : ℝ) : EReal) := by
  rw [← sitofp_column]
  pointwise [k0_pay8]

/-- The search of one level, for 512 rows `r`, the doubled codebook `d` and the squared norms `b`. -/
def levelIdx (r : Vec Ideal S512x256 .f32) (d : Vec Ideal S1x1024x256 .bf16) (b : Vec Ideal S1x1024 .f32) :
    FVec Ideal S512x1 .f32 := k0_pay17 k0_pay8 r d b

/-- The codebook rows of one level, gathered through the planes `s`. -/
def levelQ (r : Vec Ideal S512x256 .f32) (d : Vec Ideal S1x1024x256 .bf16) (b : Vec Ideal S1x1024 .f32)
    (s : Vec Ideal S1x1024x768 .bf16) : FVec Ideal S512x256 .f32 := k0_pay18 k0_pay8 r d b s

/-- `d`, `b` and `s` are the doubled codebook, the squared norms and the planes of the codebook `c`:
    the first plane holds `c`, the two others hold zeros. -/
structure Prepared (c : Book) (d : Vec Ideal S1x1024x256 .bf16) (b : Vec Ideal S1x1024 .f32)
    (s : Vec Ideal S1x1024x768 .bf16) : Prop where
  doubled : ∀ k j, d (ix3 0 k j) = c k j * 2
  norms : ∀ k, b (ix2 0 k) = ∑ j, c k j * c k j
  plane0 : ∀ k (j : Fin 256), s (ix3 0 k ⟨j.val, by omega⟩) = c k j
  plane1 : ∀ k (j : Fin 256), s (ix3 0 k ⟨256 + j.val, by omega⟩) = 0
  plane2 : ∀ k (j : Fin 256), s (ix3 0 k ⟨512 + j.val, by omega⟩) = 0

variable {c : Book} {d : Vec Ideal S1x1024x256 .bf16} {b : Vec Ideal S1x1024 .f32} {s : Vec Ideal S1x1024x768 .bf16}

/-- The search returns, at row `p`, the number of the codebook row that the kernel's rule picks. -/
theorem levelIdx_apply (h : Prepared c d b s) (r : Vec Ideal S512x256 .f32) (p : Fin 512) :
    levelIdx r d b (ix2 p 0) = (((kerPick (row512 r p) c).val : ℝ) : EReal) := by
  have hd : ∀ k, Ideal.sqrt (∑ x, r (ix2 p x) * r (ix2 p x) + b (ix2 0 k) - ∑ x, r (ix2 p x) * d (ix3 0 k x))
      = kerDist (row512 r p) c k := by
    intro k
    rw [kerDist, radicand, h.norms]
    simp only [h.doubled]
    rw [sum_mul_doubled (row512 r p) (c k)]
  pointwise [levelIdx, k0_pay17, k0_pay8]
  have hm : Finset.fold min ⊤ (fun x => kerDist (row512 r p) c x) Finset.univ
      = kerDist (row512 r p) c (firstMin (kerDist (row512 r p) c)) := fold_min_eq _
  simp only [hd, ofBits_inf, hm]
  exact fold_min_columns (kerDist (row512 r p) c) _ _ sitofp_column ofBits_1024

/-- The gather returns, at row `p`, the codebook row that the kernel's rule picks. -/
theorem levelQ_apply (h : Prepared c d b s) (r : Vec Ideal S512x256 .f32) (p : Fin 512) (j : Fin 256) :
    levelQ r d b s (ix2 p j) = c (kerPick (row512 r p) c) j := by
  have hw := levelIdx_apply h r p
  unfold levelQ k0_pay18
  unfold levelIdx at hw
  generalize k0_pay17 k0_pay8 r d b = w at hw ⊢
  pointwise
  have hone : ∀ f : Fin 1024 → EReal, ∑ x, FloatOps.sitofp (F := Ideal) .f32 (BitVec.setWidth 32
      (BitVec.ofBool (decide (k0_pay8 (F := Ideal) (ix2 p x) = w (ix2 p 0))))) * f x = f (kerPick (row512 r p) c) := by
    intro f
    rw [Finset.sum_eq_single (kerPick (row512 r p) c)]
    · rw [sitofp_truth, columns_apply, hw]
      simp
    · intro x _ hx
      rw [sitofp_truth, columns_apply, hw]
      have : ¬ ((x.val : ℝ) : EReal) = (((kerPick (row512 r p) c).val : ℝ) : EReal) := by
        rw [EReal.coe_eq_coe_iff, Nat.cast_inj]
        exact fun e => hx (Fin.ext e)
      rw [decide_eq_false this]
      simp
    · exact fun hx => absurd (Finset.mem_univ _) hx
  rw [hone, hone, hone, h.plane0, h.plane1, h.plane2, add_zero, add_zero]

end Cert.Rvq

end
-- ==== Proof.Half.lean ====
module

public import proofs.«01_k».proof.Proof.Level

/-! # The four levels on 512 rows

A grid point takes 1024 rows as two halves of 512 and runs all four levels on each. The printed
values of the two halves are cut differently; every piece is identified here with the one level of
`Level.lean`. Then the four levels, read at a row, are the recursion of `Chain.lean`. -/

@[expose] public section

set_option maxRecDepth 16384

noncomputable section

namespace Cert.Rvq

open Idealize.ShloMosaic Cert.KernelIdeal Cert.KernelIdeal.Gen

/-! ## The printed pieces are one level -/

section Pieces

variable (a r : FVec Ideal S512x256 .f32) (d : Vec Ideal S1x1024x256 .bf16) (b : Vec Ideal S1x1024 .f32)
  (s : Vec Ideal S1x1024x768 .bf16)

/-- First half, level 0: the search. -/
theorem first0_idx : k0_pay11 r d b = levelIdx r d b := rfl
/-- First half, level 0: the sum. -/
theorem first0_sum : k0_pay15 a (k0_pay12 r d b) (k0_pay13 s) = addf a (levelQ r d b s) := rfl
/-- First half, level 0: the residual. -/
theorem first0_res : k0_pay16 r (k0_pay12 r d b) (k0_pay13 s) = subf r (levelQ r d b s) := rfl
/-- First half, level 0: the squared residual. -/
theorem first0_sq : k0_pay21 r (k0_pay12 r d b) (k0_pay13 s)
    = mulf (subf r (levelQ r d b s)) (subf r (levelQ r d b s)) := rfl
/-- First half, level 1: the search. -/
theorem first1_idx : k0_pay22 k0_pay8 r (mulf r r) d b = levelIdx r d b := rfl
/-- First half, level 1: the sum. -/
theorem first1_sum : k0_pay24 k0_pay8 a r (mulf r r) d b s = addf a (levelQ r d b s) := rfl
/-- First half, level 1: the residual. -/
theorem first1_res : k0_pay25 k0_pay8 r (mulf r r) d b s = subf r (levelQ r d b s) := rfl
/-- First half, level 2: the search. -/
theorem first2_idx : k0_pay34 k0_pay8 (k0_pay33 r d b) = levelIdx r d b := rfl
/-- First half, level 2: the sum. -/
theorem first2_sum : k0_pay36 k0_pay8 a (k0_pay33 r d b) s = addf a (levelQ r d b s) := rfl
/-- First half, level 2: the residual. -/
theorem first2_res : k0_pay37 k0_pay8 r (k0_pay33 r d b) s = subf r (levelQ r d b s) := rfl
/-- First half, level 3: the search. -/
theorem first3_idx : k0_pay42 k0_pay8 r d b = levelIdx r d b := rfl
/-- First half, level 3: the sum. -/
theorem first3_sum : k0_pay45 a (k0_pay43 k0_pay8 r d b) (k0_pay44 s) = addf a (levelQ r d b s) := rfl
/-- Second half, level 0: the search. -/
theorem second0_idx : k0_pay17 k0_pay8 r d b = levelIdx r d b := rfl
/-- Second half, level 0: the sum. -/
theorem second0_sum : k0_pay19 k0_pay8 r a d b s = addf a (levelQ r d b s) := rfl
/-- Second half, level 0: the residual. -/
theorem second0_res : k0_pay20 k0_pay8 r d b s = subf r (levelQ r d b s) := rfl
/-- Second half, level 1: the search. -/
theorem second1_idx : k0_pay29 k0_pay8 (k0_pay26 r) (k0_pay27 r) (k0_pay28 d)
    (constant S512x1024 .f32 0x00000000#32) b = levelIdx r d b := rfl
/-- Second half, level 1: the sum. -/
theorem second1_sum : k0_pay31 k0_pay8 a (k0_pay26 r) (k0_pay27 r) (k0_pay28 d)
    (constant S512x1024 .f32 0x00000000#32) b s = addf a (levelQ r d b s) := rfl
/-- Second half, level 1: the residual. -/
theorem second1_res : k0_pay32 k0_pay8 r (k0_pay26 r) (k0_pay27 r) (k0_pay28 d)
    (constant S512x1024 .f32 0x00000000#32) b s = subf r (levelQ r d b s) := rfl
/-- Second half, level 2: the search. -/
theorem second2_idx : k0_pay38 k0_pay8 r d b = levelIdx r d b := rfl
/-- Second half, level 2: the sum. -/
theorem second2_sum : k0_pay40 k0_pay8 a (levelIdx r d b) s = addf a (levelQ r d b s) := rfl
/-- Second half, level 2: the residual. -/
theorem second2_res : k0_pay41 k0_pay8 r (levelIdx r d b) s = subf r (levelQ r d b s) := rfl
/-- Second half, level 3: the search. -/
theorem second3_idx : k0_pay46 k0_pay8 r d b = levelIdx r d b := rfl
/-- Second half, level 3: the sum. -/
theorem second3_sum : k0_pay47 k0_pay8 a r d b s = addf a (levelQ r d b s) := rfl
/-- The sum of the second half starts where the first half's does. -/
theorem second_zero : k0_pay10 (F := Ideal) = k0_pay9 := rfl
/-- The indices of the second half are packed as the first half's are. -/
theorem second_pack (u v w x : FVec Ideal S512x1 .f32) : k0_pay2 u v w x = k0_pay1 u v w x := rfl
/-- The squared norms of level 1 are made as those of level 0. -/
theorem norms1 : k0_pay4 s = k0_pay3 s := rfl
/-- The squared norms of level 2 are made as those of level 0. -/
theorem norms2 : k0_pay6 (k0_pay5 s) = k0_pay3 s := rfl
/-- The squared norms of level 3 are made as those of level 0. -/
theorem norms3 : k0_pay7 s = k0_pay3 s := rfl

end Pieces

/-! ## The recursion over the levels -/

variable (d : ℕ → Vec Ideal S1x1024x256 .bf16) (b : ℕ → Vec Ideal S1x1024 .f32) (s : ℕ → Vec Ideal S1x1024x768 .bf16)
  (x : Vec Ideal S512x256 .f32)

/-- The residuals of 512 rows before level `n`. -/
def resid512 : ℕ → FVec Ideal S512x256 .f32
  | 0 => x
  | n + 1 => subf (resid512 n) (levelQ (resid512 n) (d n) (b n) (s n))

/-- The sums of 512 rows before level `n`. -/
def quant512 : ℕ → FVec Ideal S512x256 .f32
  | 0 => k0_pay9
  | n + 1 => addf (quant512 n) (levelQ (resid512 d b s x n) (d n) (b n) (s n))

/-- The column of indices of level `n`, as floats. -/
def idx512 (n : ℕ) : FVec Ideal S512x1 .f32 := levelIdx (resid512 d b s x n) (d n) (b n)

variable {d b s} {C : ℕ → Book}

/-- The residuals, row by row, are those of the recursion at the kernel's rule. -/
theorem resid512_apply (h : ∀ l, Prepared (C l) (d l) (b l) (s l)) (n : ℕ) (p : Fin 512) :
    row512 (resid512 d b s x n) p = resid kerPick C (row512 x p) n := by
  induction n with
  | zero => rfl
  | succ n ih =>
    funext j
    show resid512 d b s x n (ix2 p j) - levelQ (resid512 d b s x n) (d n) (b n) (s n) (ix2 p j) = _
    rw [levelQ_apply (h n), ih, resid]
    exact congrArg (· - _) (congrFun ih j)

/-- The indices, row by row, are the recursion's. -/
theorem idx512_apply (h : ∀ l, Prepared (C l) (d l) (b l) (s l)) (n : ℕ) (p : Fin 512) :
    idx512 d b s x n (ix2 p 0) = (((chosen kerPick C (row512 x p) n).val : ℝ) : EReal) := by
  rw [idx512, levelIdx_apply (h n), resid512_apply x h, chosen]

/-- The sums, row by row, are the recursion's. -/
theorem quant512_apply (h : ∀ l, Prepared (C l) (d l) (b l) (s l)) (n : ℕ) (p : Fin 512) (j : Fin 256) :
    quant512 d b s x n (ix2 p j) = quantized kerPick C (row512 x p) n j := by
  induction n with
  | zero =>
    show k0_pay9 (F := Ideal) (ix2 p j) = 0
    pointwise [k0_pay9]
  | succ n ih =>
    show quant512 d b s x n (ix2 p j) + levelQ (resid512 d b s x n) (d n) (b n) (s n) (ix2 p j) = _
    rw [levelQ_apply (h n), ih, resid512_apply x h, quantized, chosen]

/-- The packed indices: entry `(p, l)` is the index of row `p` at level `l`. -/
theorem packed_apply (h : ∀ l, Prepared (C l) (d l) (b l) (s l)) (p : Fin 512) (l : Fin 4) :
    k0_pay1 (idx512 d b s x 0) (idx512 d b s x 1) (idx512 d b s x 2) (idx512 d b s x 3) (ix2 p l)
      = BitVec.ofNat 32 (chosen kerPick C (row512 x p) l.val).val := by
  have key : ∀ n, idx512 d b s x n (ix2 p 0) = _ := fun n => idx512_apply x h n p
  rw [← fptosi_column]
  pointwise [k0_pay1]
  fin_vals l with hl
  all_goals simp only [hl, Nat.reduceSub, Nat.reduceLT, ↓reduceDIte]
  all_goals exact congrArg _ (key _)

end Cert.Rvq

end
-- ==== Proof.Block.lean ====
module

public import proofs.«01_k».proof.Proof.Gen.KernelIdeal.Frame
public import proofs.«01_k».proof.Proof.Half
public import Idealize.ShloMosaic.Lib.Pipeline.ValueKit
public import Idealize.ShloMosaic.Lib.Pipeline.ReadBack

/-! # What one grid point leaves in its blocks

A grid point's two output blocks are written in two pieces each, one per half of its rows. Point 0
fills the scratch with the squared norms of all four codebooks and reads them back; every other
point reads the scratch as it finds it. -/

@[expose] public section

set_option maxRecDepth 16384

noncomputable section

namespace Cert.Rvq

open Idealize.ShloMosaic Idealize.SL.Sem Cert.KernelIdeal Cert.KernelIdeal.Gen

/-- The doubled codebook of level `n`, as a point loads it. -/
def doubledLoad (x1 : Vec Ideal S4x1024x256 .bf16) : ℕ → Vec Ideal S1x1024x256 .bf16
  | 0 => View.ld x1 (Rect.unit ![0, 0, 0] ![1, 1024, 256] inb_S4x1024x256_S1x1024x256_0_0_0)
  | 1 => View.ld x1 (Rect.unit ![1, 0, 0] ![1, 1024, 256] inb_S4x1024x256_S1x1024x256_1_0_0)
  | 2 => View.ld x1 (Rect.unit ![2, 0, 0] ![1, 1024, 256] inb_S4x1024x256_S1x1024x256_2_0_0)
  | _ => View.ld x1 (Rect.unit ![3, 0, 0] ![1, 1024, 256] inb_S4x1024x256_S1x1024x256_3_0_0)

/-- The planes of level `n`, as a point loads them. -/
def planesLoad (x2 : Vec Ideal S4x1024x768 .bf16) : ℕ → Vec Ideal S1x1024x768 .bf16
  | 0 => View.ld x2 (Rect.unit ![0, 0, 0] ![1, 1024, 768] inb_S4x1024x768_S1x1024x768_0_0_0)
  | 1 => View.ld x2 (Rect.unit ![1, 0, 0] ![1, 1024, 768] inb_S4x1024x768_S1x1024x768_1_0_0)
  | 2 => View.ld x2 (Rect.unit ![2, 0, 0] ![1, 1024, 768] inb_S4x1024x768_S1x1024x768_2_0_0)
  | _ => View.ld x2 (Rect.unit ![3, 0, 0] ![1, 1024, 768] inb_S4x1024x768_S1x1024x768_3_0_0)

/-- The squared norms of level `n`, as a point loads them from the scratch. -/
def normsLoad (xs : Vec Ideal S4x1024 .f32) : ℕ → Vec Ideal S1x1024 .f32
  | 0 => View.ld xs (Rect.unit ![0, 0] ![1, 1024] inb_S4x1024_S1x1024_0_0)
  | 1 => View.ld xs (Rect.unit ![1, 0] ![1, 1024] inb_S4x1024_S1x1024_1_0)
  | 2 => View.ld xs (Rect.unit ![2, 0] ![1, 1024] inb_S4x1024_S1x1024_2_0)
  | _ => View.ld xs (Rect.unit ![3, 0] ![1, 1024] inb_S4x1024_S1x1024_3_0)

/-- The first 512 rows of a block. -/
abbrev firstRows (x0 : Vec Ideal S1024x256 .f32) : Vec Ideal S512x256 .f32 :=
  View.ld x0 (Rect.unit ![0, 0] ![512, 256] inb_S1024x256_S512x256_0_0)

/-- The last 512 rows of a block. -/
abbrev lastRows (x0 : Vec Ideal S1024x256 .f32) : Vec Ideal S512x256 .f32 :=
  View.ld x0 (Rect.unit ![512, 0] ![512, 256] inb_S1024x256_S512x256_512_0)

variable (d : ℕ → Vec Ideal S1x1024x256 .bf16) (b : ℕ → Vec Ideal S1x1024 .f32) (s : ℕ → Vec Ideal S1x1024x768 .bf16)
  (x0 : Vec Ideal S1024x256 .f32)

/-- The block of sums: two pieces of 512 rows. -/
def sumsBlock : Vec Ideal S1024x256 .f32 :=
  View.canon [⟨Rect.unit ![512, 0] ![512, 256] inb_S1024x256_S512x256_512_0, quant512 d b s (lastRows x0) 4⟩,
    ⟨Rect.unit ![0, 0] ![512, 256] inb_S1024x256_S512x256_0_0, quant512 d b s (firstRows x0) 4⟩]

/-- The four columns of indices of 512 rows, packed. -/
def packed512 (x : Vec Ideal S512x256 .f32) : IVec S512x4 32 :=
  k0_pay1 (idx512 d b s x 0) (idx512 d b s x 1) (idx512 d b s x 2) (idx512 d b s x 3)

/-- The block of indices: two pieces of 512 rows. -/
def indexBlock : Vec Ideal S1024x4 .i32 :=
  View.canon (Val := Elt Ideal) (e := .i32)
    [⟨Rect.unit ![512, 0] ![512, 4] inb_S1024x4_S512x4_512_0, packed512 d b s (lastRows x0)⟩,
    ⟨Rect.unit ![0, 0] ![512, 4] inb_S1024x4_S512x4_0_0, packed512 d b s (firstRows x0)⟩]

/-- The squared norms of level `n`, as point 0 makes them from the planes. -/
def normsMade (x2 : Vec Ideal S4x1024x768 .bf16) (n : ℕ) : Vec Ideal S1x1024 .f32 := k0_pay3 (planesLoad x2 n)

/-- The scratch filled: a row of squared norms per level. -/
def normsBlock (x2 : Vec Ideal S4x1024x768 .bf16) : Vec Ideal S4x1024 .f32 :=
  View.canon [⟨Rect.unit ![3, 0] ![1, 1024] inb_S4x1024_S1x1024_3_0, normsMade x2 3⟩,
    ⟨Rect.unit ![2, 0] ![1, 1024] inb_S4x1024_S1x1024_2_0, normsMade x2 2⟩,
    ⟨Rect.unit ![1, 0] ![1, 1024] inb_S4x1024_S1x1024_1_0, normsMade x2 1⟩,
    ⟨Rect.unit ![0, 0] ![1, 1024] inb_S4x1024_S1x1024_0_0, normsMade x2 0⟩]

section Points

variable (c : Dev nD) (i : grid0.Coords)
  (arg1 : Memref sig .tc .vmem S1024x256 .f32) (harg1 : arg1.IsWhole)
  (arg2 : Memref sig .tc .vmem S4x1024x256 .bf16) (harg2 : arg2.IsWhole)
  (arg3 : Memref sig .tc .vmem S4x1024x768 .bf16) (harg3 : arg3.IsWhole)
  (arg4 : Memref sig .tc .vmem S1024x256 .f32) (harg4 : arg4.IsWhole)
  (arg5 : Memref sig .tc .vmem S1024x4 .i32) (harg5 : arg5.IsWhole)
  (arg6 : Memref sig .tc .vmem S4x1024 .f32) (harg6 : arg6.IsWhole)
  (x1 : Vec Ideal S4x1024x256 .bf16) (x2 : Vec Ideal S4x1024x768 .bf16) (xs : Vec Ideal S4x1024 .f32)

/-- A later point's block of sums, over the scratch it finds. -/
theorem sums_later (hc : ¬cond0_0 i) :
    out0_B_3 c i arg1 harg1 arg2 harg2 arg3 harg3 arg4 harg4 arg5 harg5 arg6 harg6 hc x0 x1 x2 xs
      = sumsBlock (doubledLoad x1) (normsLoad xs) (planesLoad x2) x0 := by
  funext y
  frame_out
  simp only [first0_idx, first0_sum, first0_res, first0_sq, first1_idx, first1_sum, first1_res, first2_idx,
    first2_sum, first2_res, first3_idx, first3_sum, second0_idx, second0_sum, second0_res, second1_idx,
    second1_sum, second1_res, second2_idx, second2_sum, second2_res, second3_idx, second3_sum, second_zero,
    sumsBlock, quant512, resid512, doubledLoad, normsLoad, planesLoad]

/-- A later point's block of indices, over the scratch it finds. -/
theorem index_later (hc : ¬cond0_0 i) :
    out0_B_4 c i arg1 harg1 arg2 harg2 arg3 harg3 arg4 harg4 arg5 harg5 arg6 harg6 hc x0 x1 x2 xs
      = indexBlock (doubledLoad x1) (normsLoad xs) (planesLoad x2) x0 := by
  funext y
  frame_out
  simp only [first0_idx, first0_sum, first0_res, first0_sq, first1_idx, first1_sum, first1_res, first2_idx,
    first2_sum, first2_res, first3_idx, first3_sum, second0_idx, second0_sum, second0_res, second1_idx,
    second1_sum, second1_res, second2_idx, second2_sum, second2_res, second3_idx, second3_sum, second_zero,
    second_pack, indexBlock, packed512, idx512, resid512, doubledLoad, normsLoad, planesLoad]

/-- The scratch that point 0 leaves: one row of squared norms per level. -/
theorem scratch_first (hc : cond0_0 i) :
    sout0_A_0 c i arg1 harg1 arg2 harg2 arg3 harg3 arg4 harg4 arg5 harg5 arg6 harg6 hc x0 x1 x2
      = normsBlock x2 := by
  funext y
  frame_out
  simp only [norms1, norms2, norms3, normsBlock, normsMade, planesLoad]

/-- Point 0's block of sums: it reads back the squared norms it has just stored. -/
theorem sums_first (hc : cond0_0 i) :
    out0_A_3 c i arg1 harg1 arg2 harg2 arg3 harg3 arg4 harg4 arg5 harg5 arg6 harg6 hc x0 x1 x2
      = sumsBlock (doubledLoad x1) (normsMade x2) (planesLoad x2) x0 := by
  funext y
  frame_open
  simp (disch := decide) only [↓ View.readCov_skip, ↓ View.readCov_cons_toLoadRect, ↓ View.readCov_fill]
  frame_out
  simp only [first0_idx, first0_sum, first0_res, first0_sq, first1_idx, first1_sum, first1_res, first2_idx,
    first2_sum, first2_res, first3_idx, first3_sum, second0_idx, second0_sum, second0_res, second1_idx,
    second1_sum, second1_res, second2_idx, second2_sum, second2_res, second3_idx, second3_sum, second_zero,
    norms1, norms2, norms3, sumsBlock, quant512, resid512, doubledLoad, normsMade, planesLoad]

/-- Point 0's block of indices. -/
theorem index_first (hc : cond0_0 i) :
    out0_A_4 c i arg1 harg1 arg2 harg2 arg3 harg3 arg4 harg4 arg5 harg5 arg6 harg6 hc x0 x1 x2
      = indexBlock (doubledLoad x1) (normsMade x2) (planesLoad x2) x0 := by
  funext y
  frame_open
  simp (disch := decide) only [↓ View.readCov_skip, ↓ View.readCov_cons_toLoadRect, ↓ View.readCov_fill]
  frame_out
  simp only [first0_idx, first0_sum, first0_res, first0_sq, first1_idx, first1_sum, first1_res, first2_idx,
    first2_sum, first2_res, first3_idx, first3_sum, second0_idx, second0_sum, second0_res, second1_idx,
    second1_sum, second1_res, second2_idx, second2_sum, second2_res, second3_idx, second3_sum, second_zero,
    norms1, norms2, norms3, second_pack, indexBlock, packed512, idx512, resid512, doubledLoad, normsMade, planesLoad]

end Points

end Cert.Rvq

end
-- ==== Proof.BlockAt.lean ====
module

public import proofs.«01_k».proof.Proof.Block

/-! # The blocks of one grid point, entry by entry

Row `p` of a block lies in one of the two halves; either way the block's entry is the recursion of
`Chain.lean` at that row. -/

@[expose] public section

set_option maxRecDepth 16384

noncomputable section

namespace Cert.Rvq

open Idealize.ShloMosaic Idealize.SL.Sem Cert.KernelIdeal Cert.KernelIdeal.Gen

/-- Row `p` of a block of 1024 rows. -/
abbrev row1024 (x : Vec Ideal S1024x256 .f32) (p : Fin 1024) : Fin 256 → EReal := fun j => x (ix2 p j)

variable {d : ℕ → Vec Ideal S1x1024x256 .bf16} {b : ℕ → Vec Ideal S1x1024 .f32} {s : ℕ → Vec Ideal S1x1024x768 .bf16}
  {C : ℕ → Book} (x0 : Vec Ideal S1024x256 .f32)

/-- Row `p` of the first half is row `p` of the block. -/
theorem row_first (p : Fin 512) (q : Fin 1024) (h : q.val = p.val) : row512 (firstRows x0) p = row1024 x0 q := by
  funext j
  pointwise [row512, firstRows]
  exact congrArg (fun q => x0 (ix2 q j)) (Fin.ext h.symm)

/-- Row `p` of the second half is row `512 + p` of the block. -/
theorem row_last (p : Fin 512) (q : Fin 1024) (h : q.val = 512 + p.val) : row512 (lastRows x0) p = row1024 x0 q := by
  funext j
  pointwise [row512, lastRows]
  exact congrArg (fun q => x0 (ix2 q j)) (Fin.ext h.symm)

/-- The block of sums, entry by entry. -/
theorem sumsBlock_apply (hP : ∀ l, Prepared (C l) (d l) (b l) (s l)) (q : Fin 1024) (j : Fin 256) :
    sumsBlock d b s x0 (ix2 q j) = quantized kerPick C (row1024 x0 q) 4 j := by
  unfold sumsBlock
  canon_tiles t h
  all_goals
    idx_vars t
    rw [quant512_apply _ hP]
  · rw [row_last x0 _ q h0, show j = t1 from Fin.ext h1]
  · rw [row_first x0 _ q h0, show j = t1 from Fin.ext h1]

/-- The block of indices, entry by entry. -/
theorem indexBlock_apply (hP : ∀ l, Prepared (C l) (d l) (b l) (s l)) (q : Fin 1024) (l : Fin 4) :
    indexBlock d b s x0 (ix2 q l) = BitVec.ofNat 32 (chosen kerPick C (row1024 x0 q) l.val).val := by
  unfold indexBlock
  canon_tiles t h
  all_goals
    idx_vars t
    rw [packed512, packed_apply _ hP]
  · rw [row_last x0 _ q h0, show l = t1 from Fin.ext h1]
  · rw [row_first x0 _ q h0, show l = t1 from Fin.ext h1]

/-- A row of the scratch that point 0 fills: the squared norms of that level. -/
theorem normsBlock_apply (x2 : Vec Ideal S4x1024x768 .bf16) (n : ℕ) (l : Fin 4) (hl : l.val = n) (k : Fin 1024) :
    normsBlock x2 (ix2 l k) = normsMade x2 n (ix2 0 k) := by
  subst hl
  unfold normsBlock
  canon_tiles t h
  all_goals
    idx_vars t
    have e : l.val = _ := h0
    have e1 : k = t1 := Fin.ext h1
    have e0 : t0 = 0 := Fin.ext (by omega)
    subst e0 e1
    rw [e]
    rfl

/-- The scratch that point 0 fills, read back level by level. -/
theorem normsLoad_normsBlock (x2 : Vec Ideal S4x1024x768 .bf16) (n : ℕ) (k : Fin 1024) :
    normsLoad (normsBlock x2) n (ix2 0 k) = normsMade x2 n (ix2 0 k) := by
  match n with
  | 0 => pointwise [normsLoad]; exact normsBlock_apply x2 0 0 rfl k
  | 1 => pointwise [normsLoad]; exact normsBlock_apply x2 1 1 rfl k
  | 2 => pointwise [normsLoad]; exact normsBlock_apply x2 2 2 rfl k
  | n + 3 => pointwise [normsLoad]; exact normsBlock_apply x2 3 3 rfl k

/-- The member of a stack of four that level `n` uses. -/
def member : ℕ → Fin 4
  | 0 => 0
  | 1 => 1
  | 2 => 2
  | _ => 3

/-- The codebooks of an array of four, by level. -/
def books (cb : (⟨3, ![4, 1024, 256]⟩ : Shape).Idx → EReal) (n : ℕ) : Book := fun k j => cb (ix3 (member n) k j)

/-- The two codebook operands are made of the codebooks `cb`: one holds them doubled, the other
    holds them in its first plane and zeros in the two others. -/
structure MadeOf (cb : (⟨3, ![4, 1024, 256]⟩ : Shape).Idx → EReal) (x1 : Vec Ideal S4x1024x256 .bf16)
    (x2 : Vec Ideal S4x1024x768 .bf16) : Prop where
  doubled : ∀ l k j, x1 (ix3 l k j) = cb (ix3 l k j) * 2
  plane0 : ∀ l k (j : Fin 256), x2 (ix3 l k ⟨j.val, by omega⟩) = cb (ix3 l k j)
  plane1 : ∀ l k (j : Fin 256), x2 (ix3 l k ⟨256 + j.val, by omega⟩) = 0
  plane2 : ∀ l k (j : Fin 256), x2 (ix3 l k ⟨512 + j.val, by omega⟩) = 0

variable {cb : (⟨3, ![4, 1024, 256]⟩ : Shape).Idx → EReal} {x1 : Vec Ideal S4x1024x256 .bf16}
  {x2 : Vec Ideal S4x1024x768 .bf16}

/-- The doubled codebook of level `n`, as loaded, read at an entry. -/
theorem doubledLoad_apply (n : ℕ) (k : Fin 1024) (j : Fin 256) :
    doubledLoad x1 n (ix3 0 k j) = x1 (ix3 (member n) k j) := by
  match n with
  | 0 | 1 | 2 | n + 3 => pointwise [doubledLoad, member]

/-- The planes of level `n`, as loaded, read at an entry. -/
theorem planesLoad_apply (n : ℕ) (k : Fin 1024) (j : Fin 768) :
    planesLoad x2 n (ix3 0 k j) = x2 (ix3 (member n) k j) := by
  match n with
  | 0 | 1 | 2 | n + 3 => pointwise [planesLoad, member]

/-- The squared norms that point 0 makes are those of the codebook: the planes add up to it. -/
theorem normsMade_apply (h : MadeOf cb x1 x2) (n : ℕ) (k : Fin 1024) :
    normsMade x2 n (ix2 0 k) = ∑ j, books cb n k j * books cb n k j := by
  unfold normsMade
  pointwise [k0_pay3]
  simp only [planesLoad_apply, h.plane0, h.plane1, h.plane2, add_zero]
  rfl

/-- Operands made of `cb`, with the right squared norms beside them, are prepared for every level. -/
theorem prepared (h : MadeOf cb x1 x2) (b : ℕ → Vec Ideal S1x1024 .f32)
    (hb : ∀ n k, b n (ix2 0 k) = normsMade x2 n (ix2 0 k)) (n : ℕ) :
    Prepared (books cb n) (doubledLoad x1 n) (b n) (planesLoad x2 n) where
  doubled k j := by rw [doubledLoad_apply, h.doubled]; rfl
  norms k := by rw [hb, normsMade_apply h]
  plane0 k j := by rw [planesLoad_apply, h.plane0]; rfl
  plane1 k j := by rw [planesLoad_apply, h.plane1]
  plane2 k j := by rw [planesLoad_apply, h.plane2]

end Cert.Rvq

end
-- ==== Proof.Point.lean ====
module

public import proofs.«01_k».proof.Proof.BlockAt
public import Idealize.ShloMosaic.Lib.Pipeline.ValueKit.Held
public import Idealize.ShloMosaic.Lib.Claim
public import Idealize.ShloMosaic.Lib.StableHlo.RunRead

/-! # What the launch holds at each grid point

The host prepares the two codebook operands from the codebooks; every grid point sees them whole.
The scratch is filled at point 0 and found again at every later point, so every point's blocks are
the recursion of `Chain.lean` at the rows of its feature block. -/

@[expose] public section

set_option maxRecDepth 16384

noncomputable section

namespace Cert.Rvq

open Idealize.ShloMosaic Idealize.SL.Sem Cert.KernelIdeal Cert.KernelIdeal.Gen

variable (m : (ℓ : Loc nD τ sig) → Buf (Elt Ideal) ℓ) (c : Dev nD)

/-- The codebooks in memory. -/
abbrev codebooks : S4x1024x256.Idx → EReal := m ((c.tc : Thread nD τ).loc main_arg1)

/-- The feature rows in memory. -/
abbrev features : S16384x256.Idx → EReal := m ((c.tc : Thread nD τ).loc main_arg0)

/-- The operand that the host makes of the codebooks by doubling. -/
theorem doubled_entry (l : Fin 4) (k : Fin 1024) (j : Fin 256) :
    (V m c main_v28 : S4x1024x256.Idx → EReal) (ix3 l k j) = codebooks m c (ix3 l k j) * 2 := by
  show StableHlo.after hostOps0 (fun b => m (c, b)) _ _ = _
  after_reads_simp
  pointwise
  rw [ofBits_2]

/-- An entry of the first plane of the operand of planes: the codebook's. Over the reals a cast moves
    no value, so the step back that corrects a rounding away from zero is never taken. -/
theorem plane0_entry (l : Fin 4) (k : Fin 1024) (j : Fin 256) :
    (V m c main_v25 : S4x1024x768.Idx → EReal) (ix3 l k ⟨j.val, by omega⟩) = codebooks m c (ix3 l k j) := by
  show StableHlo.after hostOps0 (fun b => m (c, b)) _ _ = _
  after_reads_simp
  dsimp only [Matrix.cons_val_zero, Matrix.cons_val_one, Matrix.cons_val]
  after_reads_simp
  pointwise
  simp only [lt_self_iff_false, if_false]

/-- An entry of the second plane: what is left of the codebook's entry once the first is taken from it. -/
theorem plane1_entry (l : Fin 4) (k : Fin 1024) (j : Fin 256) :
    (V m c main_v25 : S4x1024x768.Idx → EReal) (ix3 l k ⟨256 + j.val, by omega⟩)
      = codebooks m c (ix3 l k j) - codebooks m c (ix3 l k j) := by
  show StableHlo.after hostOps0 (fun b => m (c, b)) _ _ = _
  after_reads_simp
  dsimp only [Matrix.cons_val_zero, Matrix.cons_val_one, Matrix.cons_val]
  after_reads_simp
  pointwise
  simp only [lt_self_iff_false, if_false]

/-- An entry of the third plane: what is left once the first two are taken from the codebook's entry. -/
theorem plane2_entry (l : Fin 4) (k : Fin 1024) (j : Fin 256) :
    (V m c main_v25 : S4x1024x768.Idx → EReal) (ix3 l k ⟨512 + j.val, by omega⟩)
      = (codebooks m c (ix3 l k j) - codebooks m c (ix3 l k j))
        - (codebooks m c (ix3 l k j) - codebooks m c (ix3 l k j)) := by
  show StableHlo.after hostOps0 (fun b => m (c, b)) _ _ = _
  after_reads_simp
  dsimp only [Matrix.cons_val_zero, Matrix.cons_val_one, Matrix.cons_val]
  after_reads_simp
  pointwise
  simp only [lt_self_iff_false, if_false]
  rw [dif_neg (by omega), dif_neg (by omega)]
  have e : (⟨512 + j.val - 256 - 256, by omega⟩ : Fin 256) = j := Fin.ext (by simp only; omega)
  rw [e]

/-- Every codebook entry is a real number. -/
def FiniteBook : Prop := ∀ i, ∃ x : ℝ, codebooks m c i = x

/-- Where the blocks of the five windows lie: feature and result windows move by rows, the two
    codebook windows stay. -/
theorem index_facts : ∀ t : Fin grid0.N,
    win0_0.index t = ![t.val, 0] ∧ win0_1.index t = ![0, 0, 0] ∧ win0_2.index t = ![0, 0, 0]
      ∧ win0_3.index t = ![t.val, 0] ∧ win0_4.index t = ![t.val, 0] := by
  decide +kernel

/-- The feature block of point `t` holds the feature rows from `1024 * t` on. -/
theorem feature_block (t : Fin cfg0.N) (p : Fin 1024) (q : Fin 16384) (hq : q.val = t.val * 1024 + p.val) :
    row1024 (iblk m c 0 t) p = fun j => features m c (ix2 q j) := by
  funext j
  obtain ⟨h0, -⟩ := index_facts t
  show (iblk m c 0 t : Vec Ideal S1024x256 .f32) (ix2 p j) = features m c (ix2 q j)
  blk_ext [iblk, V_main_arg0, h0]

/-- Over finite codebooks the two codebook operands of every point are made of the codebooks. -/
theorem madeOf (hf : FiniteBook m c) (t : Fin cfg0.N) : MadeOf (codebooks m c) (iblk m c 1 t) (iblk m c 2 t) := by
  obtain ⟨-, h1, h2, -⟩ := index_facts t
  have e1 : ∀ l k j, (iblk m c 1 t : Vec Ideal S4x1024x256 .bf16) (ix3 l k j) = (V m c main_v28 : S4x1024x256.Idx → EReal) (ix3 l k j) := by
    intro l k j
    blk_ext [iblk, h1]
  have e2 : ∀ l k j, (iblk m c 2 t : Vec Ideal S4x1024x768 .bf16) (ix3 l k j) = (V m c main_v25 : S4x1024x768.Idx → EReal) (ix3 l k j) := by
    intro l k j
    blk_ext [iblk, h2]
  have e3 : ∀ i, codebooks m c i - codebooks m c i = 0 := by
    intro i
    obtain ⟨x, hx⟩ := hf i
    rw [hx, ← EReal.coe_sub, sub_self, EReal.coe_zero]
  refine ⟨fun l k j => ?_, fun l k j => ?_, fun l k j => ?_, fun l k j => ?_⟩
  · rw [e1, doubled_entry]
  · rw [e2, plane0_entry]
  · rw [e2, plane1_entry, e3]
  · rw [e2, plane2_entry, e3, sub_zero]

/-- The scratch after any point: the squared norms made of the planes at the start of the run. -/
theorem scratch_held (t : Fin cfg0.N) :
    ∃ t' : Fin cfg0.N, (outsAt0 m c t.val t.isLt).2.2 = normsBlock (iblk m c 2 t') := by
  refine ⟨_, Pipeline.eq_of_write_hold (fun n h => (outsAt0 m c n h).2.2) 16
    (fun t => normsBlock (iblk m c 2 t)) (fun t h => ?_) (fun t h => ?_) t⟩
  · show (outsAt0 m c t.val t.isLt).2.2 = _
    rw [outsAt0_A m c t h]
    dsimp only
    rw [scratch_first]
  · show (outsAt0 m c t.val t.isLt).2.2 = _
    rw [outsAt0_B m c t h]
    dsimp only [sout0_B_0]

/-- The squared norms found in the scratch are those the planes of any point would give. -/
theorem scratch_norms (hf : FiniteBook m c) (t s : Fin cfg0.N) (n : ℕ) (k : Fin 1024) :
    normsLoad (outsAt0 m c s.val s.isLt).2.2 n (ix2 0 k) = normsMade (iblk m c 2 t) n (ix2 0 k) := by
  obtain ⟨s', h⟩ := scratch_held m c s
  rw [h, normsLoad_normsBlock, normsMade_apply (madeOf m c hf s'), normsMade_apply (madeOf m c hf t)]

/-- The block of sums of every point. -/
theorem sums_point (hf : FiniteBook m c) (t : Fin cfg0.N) (p : Fin 1024) (q : Fin 16384)
    (hq : q.val = t.val * 1024 + p.val) (j : Fin 256) :
    (outsAt0 m c t.val t.isLt).1 (ix2 p j)
      = quantized kerPick (books (codebooks m c)) (fun j => features m c (ix2 q j)) 4 j := by
  by_cases h : t.val % 16 = 0
  · rw [outsAt0_A m c t h]
    dsimp only
    rw [sums_first, sumsBlock_apply _ (prepared (madeOf m c hf t) _ fun _ _ => rfl), feature_block m c t p q hq]
  · rw [outsAt0_B m c t h]
    dsimp only
    rw [sums_later, sumsBlock_apply _ (prepared (madeOf m c hf t) _ (scratch_norms m c hf t ⟨t.val - 1, by omega⟩)),
      feature_block m c t p q hq]

/-- The block of indices of every point. -/
theorem index_point (hf : FiniteBook m c) (t : Fin cfg0.N) (p : Fin 1024) (q : Fin 16384)
    (hq : q.val = t.val * 1024 + p.val) (l : Fin 4) :
    (outsAt0 m c t.val t.isLt).2.1 (ix2 p l)
      = BitVec.ofNat 32 (chosen kerPick (books (codebooks m c)) (fun j => features m c (ix2 q j)) l.val).val := by
  by_cases h : t.val % 16 = 0
  · rw [outsAt0_A m c t h]
    dsimp only
    rw [index_first, indexBlock_apply _ (prepared (madeOf m c hf t) _ fun _ _ => rfl), feature_block m c t p q hq]
  · rw [outsAt0_B m c t h]
    dsimp only
    rw [index_later, indexBlock_apply _ (prepared (madeOf m c hf t) _ (scratch_norms m c hf t ⟨t.val - 1, by omega⟩)),
      feature_block m c t p q hq]

end Cert.Rvq

end
-- ==== Proof.Arrays.lean ====
module

public import proofs.«01_k».proof.Proof.Point
public import Idealize.ShloMosaic.Lib.Pipeline.ValueKit.Geometry

/-! # What the kernel leaves in its two result arrays

The blocks of `Point.lean` cover the two arrays, so each array is the recursion of `Chain.lean` at
its row; the host then turns the array of indices round. -/

@[expose] public section

set_option maxRecDepth 16384

noncomputable section

namespace Cert.Rvq

open Idealize.ShloMosaic Idealize.SL.Sem Cert.KernelIdeal Cert.KernelIdeal.Gen

/-- The array of sums: at row `q` the sum of the codewords chosen, level after level, for feature row `q`. -/
def sumsOf (pick : Rule) (cb : S4x1024x256.Idx → EReal) (x : S16384x256.Idx → EReal) : S16384x256.Idx → EReal :=
  fun i => quantized pick (books cb) (fun j => x (ix2 (i 0) j)) 4 (i 1)

/-- The array of indices: at level `l` and row `q` the index of the codeword chosen there. -/
def indicesOf (pick : Rule) (cb : S4x1024x256.Idx → EReal) (x : S16384x256.Idx → EReal) : S4x16384.Idx → BitVec 32 :=
  fun i => BitVec.ofNat 32 (chosen pick (books cb) (fun j => x (ix2 (i 1) j)) (i 0).val).val

variable (m : (ℓ : Loc nD τ sig) → Buf (Elt Ideal) ℓ) (c : Dev nD)

/-- The first result of the launch. -/
theorem sums_array (hf : FiniteBook m c) :
    (dats m 0 c).arrAt 3 cfg0.N = sumsOf kerPick (codebooks m c) (features m c) := by
  refine (dats m 0 c).arrAt_eq_of_covers 3 _ (by decide +kernel) fun t ht y => ?_
  blk_simp
  rw [after0_3]
  obtain ⟨-, -, -, h3, -⟩ := index_facts t
  idx_vars y
  have hq : t.val * 1024 + y0.val < 16384 := by
    have := t.isLt
    have hN : cfg0.grid.N = 16 := by decide
    omega
  refine (sums_point m c hf t y0 ⟨_, hq⟩ rfl y1).trans ?_
  show sumsOf kerPick (codebooks m c) (features m c) (ix2 ⟨_, hq⟩ y1) = _
  blk_ext [h3]

/-- The second result of the launch, row by row as the launch stores it. -/
theorem index_array (hf : FiniteBook m c) :
    (dats m 0 c).arrAt 4 cfg0.N = fun i : S16384x4.Idx =>
      indicesOf kerPick (codebooks m c) (features m c) (ix2 (i 1) (i 0)) := by
  refine (dats m 0 c).arrAt_eq_of_covers 4 _ (by decide +kernel) fun t ht y => ?_
  blk_simp
  rw [after0_4]
  obtain ⟨-, -, -, -, h4⟩ := index_facts t
  idx_vars y
  have hq : t.val * 1024 + y0.val < 16384 := by
    have := t.isLt
    have hN : cfg0.grid.N = 16 := by decide
    omega
  refine (index_point m c hf t y0 ⟨_, hq⟩ rfl y1).trans ?_
  show indicesOf kerPick (codebooks m c) (features m c) (ix2 y1 ⟨_, hq⟩) = _
  blk_ext [h4]

/-- The kernel's run: what its two results hold, its arguments unchanged. -/
theorem kernel_run (g : Dev nD → PrngReg) (hf : ∀ c, FiniteBook m c) :
    θ_run defs (onTc (τ := τ) (main (F := Ideal))) ⟨m, fun _ => 0, g⟩ fun r => ∀ c : Dev nD,
      r.2.mem ((c.tc : Thread nD τ).loc main_v29_0) = sumsOf kerPick (codebooks m c) (features m c)
      ∧ r.2.mem ((c.tc : Thread nD τ).loc main_v30) = indicesOf kerPick (codebooks m c) (features m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.unchanged m g & run_main m g
  · exact sums_array m c (hf c)
  · show StableHlo.after _ _ _ = _
    after_reads_simp
    have e := (Pipeline.withArrays_arr spec0 (by decide) c (V0 m c)
      (fun w => (dats m 0 c).arrAt w (cfgs 0).N) 4).trans (index_array m c (hf c))
    refine (congrArg (fun x => transpose S4x16384 [1, 0] x transposes_S16384x4_S4x16384_1_0) e).trans ?_
    funext i
    idx_vars i
    pointwise

end Cert.Rvq

end
-- ==== Proof.RefOps.lean ====
module

public import proofs.«01_k».proof.Proof.Scalars
public import proofs.«01_k».proof.Proof.Gen.ReferenceIdeal
public import Idealize.ShloMosaic.Lib.Claim
public import Idealize.ShloMosaic.Lib.StableHlo.RunRead

/-! # The reference, one level at a time

The reference is a straight line of operations: two that make the zero sums, then the same run of
operations for each of the four levels, then the stacking of the indices. Here each level's
operations are gathered into array functions, and each stretch of the line is read as them. -/

@[expose] public section

set_option maxRecDepth 16384

noncomputable section

namespace Cert.Rvq

open Idealize.ShloMosaic Idealize.SL.Sem Cert.ReferenceIdeal Cert.ReferenceIdeal.Gen

/-- The distances of all rows `r` to all codewords `w`. -/
def distArr (w : FVec Ideal S1024x256 .f32) (r : FVec Ideal S16384x256 .f32) : FVec Ideal S16384x1024 .f32 :=
  Host.sqrt (maximumf (subf
    (addf
      (broadcastInDim S16384x1024 ![0, 1] bcast_S16384x1_S16384x1024_0_1 (broadcastInDim S16384x1 ![0] bcast_S16384_S16384x1_0
        (Host.reduceAdd (mulf r r) (constant (F := Ideal) S_ .f32 0x00000000#32) reducesTo_S16384x256_S16384_d1 h_S_)))
      (broadcastInDim S16384x1024 ![0, 1] bcast_S1x1024_S16384x1024_0_1 (broadcastInDim S1x1024 ![1] bcast_S1024_S1x1024_1
        (Host.reduceAdd (mulf w w) (constant (F := Ideal) S_ .f32 0x00000000#32) reducesTo_S1024x256_S1024_d1 h_S_))))
    (mulf (broadcastInDim S16384x1024 ![] bcast_S_S16384x1024 (constant (F := Ideal) S_ .f32 0x40000000#32))
      (Host.dotGeneral dot_S16384x256_S256x1024_S16384x1024_1_0_0_1_n_n none r
        (transpose S256x1024 [1, 0] w transposes_S1024x256_S256x1024_1_0))))
    (broadcastInDim S16384x1024 ![] bcast_S_S16384x1024 (constant (F := Ideal) S_ .f32 0x00000000#32)))

/-- The index of the first smallest entry of each row of `d`. -/
def argArr (d : FVec Ideal S16384x1024 .f32) : Vec Ideal S16384 .i32 := fun j =>
  (Host.argReduce reducer_argmin_f32_i32 d (iotaInDim S16384x1024 32 1) (constant (F := Ideal) S_ .f32 0x7F800000#32)
    (constantI S_ 32 0#32) reducesTo_S16384x1024_S16384_d1 h_S_ j).2

/-- The indices that a lookup uses: a negative one counts from the end; one column. -/
def wrapArr (i : Vec Ideal S16384 .i32) : Vec Ideal S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Where the index of a lookup lies in the codebook. -/
def insideArr (i : Vec Ideal S16384x1 .i32) : Vec Ideal S16384 .i1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codewords at the indices `i`. -/
def takeArr (w : FVec Ideal S1024x256 .f32) (i : Vec Ideal S16384 .i32) : FVec Ideal S16384x256 .f32 :=
  select (broadcastInDim S16384x256 ![0] bcast_S16384_S16384x256_0 (insideArr (wrapArr i)))
    (Host.gather gather_S1024x256_S16384x1_S16384x256_1_0_n_n_0_1_1256 w (wrapArr i))
    (broadcastInDim S16384x256 ![] bcast_S_S16384x256 (constant (F := Ideal) S_ .f32 0x7FC00000#32))

/-- One level of the reference: from the codebook `w`, the rows `r` left over and the sums `q`, the
    indices `i`, the next sums and the next rows. -/
structure IsLevel (w : FVec Ideal S1024x256 .f32) (r q : FVec Ideal S16384x256 .f32) (i : Vec Ideal S16384 .i32)
    (q' r' : FVec Ideal S16384x256 .f32) : Prop where
  idx : i = argArr (distArr w r)
  sum : q' = addf q (takeArr w i)
  res : r' = subf r (takeArr w i)

/-- The codebook of level `l`, cut out of the array of all four. -/
def bookArr (cb : FVec Ideal S4x1024x256 .f32) : Fin 4 → FVec Ideal S1024x256 .f32
  | 0 => shapeCast S1024x256 (extractStridedSlice S1x1024x256 ![0, 0, 0] cb slices_S4x1024x256_S1x1024x256_0_0_0)
      shapeCasts_S1x1024x256_S1024x256
  | 1 => shapeCast S1024x256 (extractStridedSlice S1x1024x256 ![1, 0, 0] cb slices_S4x1024x256_S1x1024x256_1_0_0)
      shapeCasts_S1x1024x256_S1024x256
  | 2 => shapeCast S1024x256 (extractStridedSlice S1x1024x256 ![2, 0, 0] cb slices_S4x1024x256_S1x1024x256_2_0_0)
      shapeCasts_S1x1024x256_S1024x256
  | 3 => shapeCast S1024x256 (extractStridedSlice S1x1024x256 ![3, 0, 0] cb slices_S4x1024x256_S1x1024x256_3_0_0)
      shapeCasts_S1x1024x256_S1024x256

/-- The four columns of indices, stacked. -/
def stackArr (i0 i1 i2 i3 : Vec Ideal S16384 .i32) : Vec Ideal S4x16384 .i32 :=
  concatenate S4x16384 0
    [⟨S1x16384, broadcastInDim S1x16384 ![1] bcast_S16384_S1x16384_1 i0⟩,
      ⟨S1x16384, broadcastInDim S1x16384 ![1] bcast_S16384_S1x16384_1 i1⟩,
      ⟨S1x16384, broadcastInDim S1x16384 ![1] bcast_S16384_S1x16384_1 i2⟩,
      ⟨S1x16384, broadcastInDim S1x16384 ![1] bcast_S16384_S1x16384_1 i3⟩]
    concatenates_S1x16384_S1x16384_S1x16384_S1x16384_S4x16384_d0

/-- The operations of the reference, in order. -/
def line : { ops : List (HloOp τ sig (Elt Ideal)) // ∀ d, StableHlo.IsSeq (main (F := Ideal) d) ops } := by
  apply Subtype.mk
  hlo_seq

/-- The operations before the first level: they make the zero sums. -/
abbrev opening : List (HloOp τ sig (Elt Ideal)) := line.1.take 2

/-- The operations of level `l`. -/
abbrev stretch (l : ℕ) : List (HloOp τ sig (Elt Ideal)) := (line.1.drop (2 + 53 * l)).take 53

/-- The operations after the last level: they stack the indices. -/
abbrev closing : List (HloOp τ sig (Elt Ideal)) := line.1.drop 214

variable (V : Valuation τ sig (Elt Ideal))

/-- The first stretch is level 0. -/
theorem level0 : IsLevel (bookArr (V (Proc.devRef .tc main_arg1)) 0) (V (Proc.devRef .tc main_arg0)) (V (Proc.devRef .tc main_v0))
    (StableHlo.after (stretch 0) V (Proc.devRef .tc main_v20)) (StableHlo.after (stretch 0) V (Proc.devRef .tc main_v22)) (StableHlo.after (stretch 0) V (Proc.devRef .tc main_v23)) := by
  refine ⟨?_, ?_, ?_⟩ <;> after_reads_simp <;>
    simp -implicitDefEqProofs only [StableHlo.TRef.ofBuf, StableHlo.TRef.toBuf, cast_cast, cast_eq] <;> rfl

/-- The second stretch is level 1. -/
theorem level1 : IsLevel (bookArr (V (Proc.devRef .tc main_arg1)) 1) (V (Proc.devRef .tc main_v23)) (V (Proc.devRef .tc main_v22))
    (StableHlo.after (stretch 1) V (Proc.devRef .tc main_v43)) (StableHlo.after (stretch 1) V (Proc.devRef .tc main_v45)) (StableHlo.after (stretch 1) V (Proc.devRef .tc main_v46)) := by
  refine ⟨?_, ?_, ?_⟩ <;> after_reads_simp <;>
    simp -implicitDefEqProofs only [StableHlo.TRef.ofBuf, StableHlo.TRef.toBuf, cast_cast, cast_eq] <;> rfl

/-- The third stretch is level 2. -/
theorem level2 : IsLevel (bookArr (V (Proc.devRef .tc main_arg1)) 2) (V (Proc.devRef .tc main_v46)) (V (Proc.devRef .tc main_v45))
    (StableHlo.after (stretch 2) V (Proc.devRef .tc main_v66)) (StableHlo.after (stretch 2) V (Proc.devRef .tc main_v68)) (StableHlo.after (stretch 2) V (Proc.devRef .tc main_v69)) := by
  refine ⟨?_, ?_, ?_⟩ <;> after_reads_simp <;>
    simp -implicitDefEqProofs only [StableHlo.TRef.ofBuf, StableHlo.TRef.toBuf, cast_cast, cast_eq] <;> rfl

/-- The fourth stretch is level 3. -/
theorem level3 : IsLevel (bookArr (V (Proc.devRef .tc main_arg1)) 3) (V (Proc.devRef .tc main_v69)) (V (Proc.devRef .tc main_v68))
    (StableHlo.after (stretch 3) V (Proc.devRef .tc main_v89)) (StableHlo.after (stretch 3) V (Proc.devRef .tc main_v91)) (StableHlo.after (stretch 3) V (Proc.devRef .tc main_v92)) := by
  refine ⟨?_, ?_, ?_⟩ <;> after_reads_simp <;>
    simp -implicitDefEqProofs only [StableHlo.TRef.ofBuf, StableHlo.TRef.toBuf, cast_cast, cast_eq] <;> rfl

/-- The line is its stretches, one after the other. -/
theorem after_line : StableHlo.after line.1 V = StableHlo.after closing (StableHlo.after (stretch 3)
    (StableHlo.after (stretch 2) (StableHlo.after (stretch 1) (StableHlo.after (stretch 0)
      (StableHlo.after opening V))))) := by
  simp only [← StableHlo.after_append]
  rfl

/-- The operations before the first level leave zero sums. -/
theorem opening_sums : StableHlo.after opening V (Proc.devRef .tc main_v0)
    = broadcastInDim S16384x256 ![] bcast_S_S16384x256 (constant (F := Ideal) S_ .f32 0x00000000#32) := by
  after_reads_simp

/-- The operations after the last level stack the indices. -/
theorem closing_stack : StableHlo.after closing V (Proc.devRef .tc main_v97)
    = stackArr (V (Proc.devRef .tc main_v20)) (V (Proc.devRef .tc main_v43)) (V (Proc.devRef .tc main_v66))
      (V (Proc.devRef .tc main_v89)) := by
  after_reads_simp
  rfl

end Cert.Rvq

end
-- ==== Proof.RefArgmin.lean ====
module

public import proofs.«01_k».proof.Proof.RefOps
public import proofs.«01_k».proof.Proof.Distance
public import Idealize.ShloMosaic.Lib.Pointwise

/-! # The reference's distances and its argmin, read at an index

The reference's argmin is a fold over the (value, index) pairs of one row, from the pair (+∞, 0).
Its step keeps the pair with the smaller value, and between equal values the one with the smaller
index. So the result is one of the pairs and lies below all of them, which fixes it. -/

@[expose] public section

set_option maxRecDepth 16384

noncomputable section

namespace Cert.Rvq

open Idealize.ShloMosaic Cert.ReferenceIdeal Cert.ReferenceIdeal.Gen

/-- The distance array holds the reference's distances. -/
theorem distArr_at (w : FVec Ideal S1024x256 .f32) (r : FVec Ideal S16384x256 .f32) (p : Fin 16384) (k : Fin 1024) :
    distArr w r (ix2 p k) = refDist (fun j => r (ix2 p j)) (fun k j => w (ix2 k j)) k := by
  pointwise [distArr]
  rw [ofBits_2]
  rfl

/-- Pair `a` has the smaller value, or the same value and no greater an index. -/
def Below (a b : EReal × BitVec 32) : Prop := a.1 < b.1 ∨ a.1 = b.1 ∧ a.2.toInt ≤ b.2.toInt

theorem Below.rfl' (a : EReal × BitVec 32) : Below a a := .inr ⟨rfl, le_rfl⟩

theorem Below.trans {a b c : EReal × BitVec 32} (h : Below a b) (h' : Below b c) : Below a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The step of the argmin returns one of its two pairs, and that pair lies below both. -/
theorem step_spec (a b : EReal × BitVec 32) :
    (reducer_argmin_f32_i32 (F := Ideal) a b = a ∨ reducer_argmin_f32_i32 (F := Ideal) a b = b)
      ∧ Below (reducer_argmin_f32_i32 (F := Ideal) a b) a ∧ Below (reducer_argmin_f32_i32 (F := Ideal) a b) b := by
  obtain ⟨x, i⟩ := a
  obtain ⟨y, j⟩ := b
  have hs : i.slt j = decide (i.toInt < j.toInt) := rfl
  have e : reducer_argmin_f32_i32 (F := Ideal) (x, i) (y, j)
      = if x < y ∨ x = y ∧ i.toInt < j.toInt then (x, i) else (y, j) := by
    simp only [reducer_argmin_f32_i32, Ideal.cmpf_def, Ideal.cmp, IntOp.cmpi, IntOp.ori, IntOp.andi, Scalar.select, hs]
    rcases lt_trichotomy x y with h | h | h
    · have hb : ∀ b : BitVec 1, 1#1 ||| b = 1#1 := by decide
      simp [h, h.ne, hb]
    · subst h
      by_cases hij : i.toInt < j.toInt <;> simp [hij]
    · simp [h.not_gt, h.ne']
  rw [e]
  split
  · rename_i h
    refine ⟨.inl rfl, Below.rfl' _, ?_⟩
    rcases h with h | ⟨h, hi⟩
    · exact .inl h
    · exact .inr ⟨h, hi.le⟩
  · rename_i h
    push Not at h
    refine ⟨.inr rfl, ?_, Below.rfl' _⟩
    rcases h.1.lt_or_eq with h' | h'
    · exact .inl h'
    · exact .inr ⟨h', h.2 h'.symm⟩

/-- The fold of the step returns the initial pair or a pair of the list, and that pair lies below
    all of them. -/
theorem fold_spec (L : List (EReal × BitVec 32)) (z : EReal × BitVec 32) :
    (L.foldl (reducer_argmin_f32_i32 (F := Ideal)) z = z ∨ L.foldl (reducer_argmin_f32_i32 (F := Ideal)) z ∈ L)
      ∧ Below (L.foldl (reducer_argmin_f32_i32 (F := Ideal)) z) z
      ∧ ∀ a ∈ L, Below (L.foldl (reducer_argmin_f32_i32 (F := Ideal)) z) a := by
  induction L generalizing z with
  | nil => exact ⟨.inl rfl, Below.rfl' _, by simp⟩
  | cons b L ih =>
    obtain ⟨hm, hz, hL⟩ := ih (reducer_argmin_f32_i32 (F := Ideal) z b)
    obtain ⟨hs, hsz, hsb⟩ := step_spec z b
    refine ⟨?_, hz.trans hsz, ?_⟩
    · rw [List.foldl_cons]
      rcases hm with hm | hm
      · rw [hm]
        rcases hs with hs | hs
        · exact .inl hs
        · exact .inr (by rw [hs]; exact List.mem_cons_self)
      · exact .inr (List.mem_cons_of_mem _ hm)
    · intro a ha
      rcases List.mem_cons.mp ha with rfl | ha
      · exact hz.trans hsb
      · exact hL a ha

/-- The word of a column number, read as a signed integer. -/
theorem toInt_column (k : Fin 1024) : (BitVec.ofNat 32 k.val).toInt = (k.val : ℤ) := by
  rw [BitVec.toInt_eq_toNat_of_lt] <;> rw [BitVec.toNat_ofNat, Nat.mod_eq_of_lt (by omega)]
  omega

/-- A list that holds exactly the pairs of a row folds to the first position of its least value. -/
theorem fold_row (d : Fin 1024 → EReal) (L : List (EReal × BitVec 32))
    (hL : ∀ a, a ∈ L ↔ ∃ k : Fin 1024, a = (d k, BitVec.ofNat 32 k.val)) :
    (L.foldl (reducer_argmin_f32_i32 (F := Ideal)) (⊤, 0#32)).2 = BitVec.ofNat 32 (firstMin d).val := by
  obtain ⟨hm, hz, hb⟩ := fold_spec L (⊤, 0#32)
  generalize L.foldl (reducer_argmin_f32_i32 (F := Ideal)) (⊤, 0#32) = R at hm hz hb
  have hb' : ∀ k : Fin 1024, Below R (d k, BitVec.ofNat 32 k.val) := fun k => hb _ ((hL _).mpr ⟨k, rfl⟩)
  have hR : ∃ k : Fin 1024, R = (d k, BitVec.ofNat 32 k.val) := by
    rcases hm with rfl | hm
    · refine ⟨0, ?_⟩
      rcases hb' 0 with h | ⟨h, -⟩
      · exact absurd h not_top_lt
      · exact Prod.ext h rfl
    · exact (hL _).mp hm
  obtain ⟨k, rfl⟩ := hR
  have hk : IsFirstMin d k := by
    refine ⟨fun l => ?_, fun l hl => ?_⟩
    · rcases hb' l with h | ⟨h, -⟩
      · exact le_of_lt h
      · exact le_of_eq h
    · rcases hb' l with h | ⟨-, h⟩
      · exact h
      · simp only [toInt_column] at h
        exact absurd hl (not_lt.mpr (Fin.le_def.mpr (by exact_mod_cast h)))
  rw [← hk.eq]

/-- The pairs of row `p` are its values, each with its column number. -/
theorem mem_pairs (d : FVec Ideal S16384x1024 .f32) (p : Fin 16384) (a : EReal × BitVec 32) :
    a ∈ Host.argReduceFiber d (iotaInDim S16384x1024 32 1) reducesTo_S16384x1024_S16384_d1 (ix1 p)
      ↔ ∃ k : Fin 1024, a = (d (ix2 p k), BitVec.ofNat 32 k.val) := by
  simp only [Host.argReduceFiber, List.mem_map, List.mem_filter, List.mem_finRange, true_and, decide_eq_true_eq]
  constructor
  · rintro ⟨n, hn, rfl⟩
    generalize S16384x1024.rowMajor.symm n = y at hn ⊢
    idx_vars y
    have hp : y0 = p := congrFun hn 0
    exact ⟨y1, by rw [hp]; rfl⟩
  · rintro ⟨k, rfl⟩
    refine ⟨S16384x1024.rowMajor (ix2 p k), ?_, ?_⟩
    · rw [Equiv.symm_apply_apply]
      funext b
      match b with
      | ⟨0, _⟩ => rfl
    · rw [Equiv.symm_apply_apply]
      rfl

/-- The argmin of row `p` is the first position of the row's least value. -/
theorem argReduce_row (d : FVec Ideal S16384x1024 .f32) (p : Fin 16384) (v : FVec Ideal S_ .f32) (n : Vec Ideal S_ .i32)
    (hv : v (Shape.Idx.first h_S_) = ⊤) (hn : n (Shape.Idx.first h_S_) = 0#32) :
    (Host.argReduce reducer_argmin_f32_i32 d (iotaInDim S16384x1024 32 1) v n reducesTo_S16384x1024_S16384_d1 h_S_ (ix1 p)).2
      = BitVec.ofNat 32 (firstMin fun k => d (ix2 p k)).val := by
  rw [Ideal.argReduce_eq_reduce2, Host.reduce2_eq_foldl_fiber, hv, hn]
  exact fold_row _ _ (mem_pairs d p)

/-- The initial value of the argmin is `⊤`. -/
theorem init_value : (constant (F := Ideal) S_ .f32 0x7F800000#32 : FVec Ideal S_ .f32) (Shape.Idx.first h_S_) = ⊤ := by
  rw [constant_apply]
  exact ofBits_inf

/-- The initial index of the argmin is zero. -/
theorem init_index : (constantI S_ 32 0#32 : Vec Ideal S_ .i32) (Shape.Idx.first h_S_) = 0#32 := rfl

/-- The argmin array, as the function of the row that it is. -/
theorem argArr_eq (d : FVec Ideal S16384x1024 .f32) : argArr d = fun j =>
    (Host.argReduce reducer_argmin_f32_i32 d (iotaInDim S16384x1024 32 1) (constant (F := Ideal) S_ .f32 0x7F800000#32)
      (constantI S_ 32 0#32) reducesTo_S16384x1024_S16384_d1 h_S_ j).2 := rfl

/-- The argmin array holds, for each row, the first position of the row's least value. -/
theorem argArr_at (d : FVec Ideal S16384x1024 .f32) (p : Fin 16384) :
    argArr d (ix1 p) = BitVec.ofNat 32 (firstMin fun k => d (ix2 p k)).val := by
  rw [argArr_eq]
  exact argReduce_row d p _ _ init_value init_index

end Cert.Rvq

end
-- ==== Proof.RefTake.lean ====
module

public import proofs.«01_k».proof.Proof.RefOps
public import proofs.«01_k».proof.Proof.BlockAt
public import Idealize.ShloMosaic.Lib.Routing.Ops

/-! # The reference's lookups, read at an index

A lookup at an index that is a codebook row reads that row: the index is not negative, it lies
inside, and the gather reads there. -/

@[expose] public section

set_option maxRecDepth 16384

noncomputable section

namespace Cert.Rvq

open Idealize.ShloMosaic Cert.ReferenceIdeal Cert.ReferenceIdeal.Gen

/-- An index that is a codebook row is not changed. -/
theorem wrapArr_at (i : Vec Ideal S16384 .i32) (p : Fin 16384) (z : Fin 1) (k : Fin 1024)
    (h : i (ix1 p) = BitVec.ofNat 32 k.val) : wrapArr i (ix2 p z) = BitVec.ofNat 32 k.val := by
  have hs : ∀ k : Fin 1024, (BitVec.ofNat 32 k.val).slt 0#32 = false := by decide +kernel
  pointwise [wrapArr]
  rw [h]
  simp [IntOp.cmpi, hs, Scalar.select]

/-- A fold of conjunctions of true bits is true. -/
theorem fold_and_true {ι : Type} (L : List ι) (f : ι → BitVec 1) (h : ∀ a ∈ L, f a = 1#1) :
    L.foldl (fun r a => IntOp.andi r (f a)) 1#1 = 1#1 := by
  induction L with
  | nil => rfl
  | cons b L ih =>
    rw [List.foldl_cons, h b List.mem_cons_self]
    exact ih fun a ha => h a (List.mem_cons_of_mem _ ha)

/-- An index that is a codebook row lies inside. -/
theorem insideArr_at (i : Vec Ideal S16384x1 .i32) (p : Fin 16384) (k : Fin 1024)
    (h : ∀ z : Fin 1, i (ix2 p z) = BitVec.ofNat 32 k.val) : insideArr i (ix1 p) = 1#1 := by
  have hs : ∀ k : Fin 1024, IntOp.andi (IntOp.cmpi .sge (BitVec.ofNat 32 k.val) 0#32)
      (IntOp.cmpi .sle (BitVec.ofNat 32 k.val) 1023#32) = 1#1 := by decide +kernel
  rw [insideArr, Host.reduce_eq_foldl]
  refine fold_and_true _ _ fun y hy => ?_
  have hy := (List.mem_filter.mp hy).2
  rw [decide_eq_true_eq] at hy
  idx_vars y
  have hp : y0 = p := congrFun hy 0
  subst hp
  pointwise []
  rw [h y1]
  exact hs k

/-- Where the row's bit is true, the choice takes the looked-up entry. -/
theorem select_row (b : Vec Ideal S16384 .i1) (g n : FVec Ideal S16384x256 .f32) (p : Fin 16384) (j : Fin 256)
    (h : b (ix1 p) = 1#1) :
    select (broadcastInDim S16384x256 ![0] bcast_S16384_S16384x256_0 b) g n (ix2 p j) = g (ix2 p j) := by
  pointwise []
  rw [h]
  rfl

/-- A lookup at an index that is a codebook row reads that row. -/
theorem takeArr_at (w : FVec Ideal S1024x256 .f32) (i : Vec Ideal S16384 .i32) (p : Fin 16384) (j : Fin 256)
    (k : Fin 1024) (h : i (ix1 p) = BitVec.ofNat 32 k.val) : takeArr w i (ix2 p j) = w (ix2 k j) :=
  (select_row _ _ _ p j (insideArr_at _ p k fun z => wrapArr_at i p z k h)).trans
    (Routing.gather_row (nb := 1024) (B := 256) (n := 16384) _ rfl rfl rfl rfl rfl w (wrapArr i) p j k
      (wrapArr_at i p 0 k h) (by norm_num))

/-- The codebook cut out for level `l` is that of the array. -/
theorem bookArr_at (cb : FVec Ideal S4x1024x256 .f32) (l : Fin 4) (k : Fin 1024) (j : Fin 256) :
    bookArr cb l (ix2 k j) = books cb l.val k j := by
  match l with
  | 0 | 1 | 2 | 3 => pointwise [bookArr, books, member]

/-- Row `l` of the stack is the `l`-th column of indices. -/
theorem stackArr_at (i : Fin 4 → Vec Ideal S16384 .i32) (l : Fin 4) (p : Fin 16384) :
    stackArr (i 0) (i 1) (i 2) (i 3) (ix2 l p) = i l (ix1 p) := by
  match l with
  | 0 | 1 | 2 | 3 => pointwise [stackArr]

end Cert.Rvq

end
-- ==== Proof.RefLevel.lean ====
module

public import proofs.«01_k».proof.Proof.RefArgmin
public import proofs.«01_k».proof.Proof.RefTake

/-! # A level of the reference is a step of the recursion

If before a level every row of the residual array and of the sum array is what residual
quantization of that row says, then the level writes the index that the recursion picks, and after
the level both arrays are what the recursion says one level on. -/

@[expose] public section

set_option maxRecDepth 16384

noncomputable section

namespace Cert.Rvq

open Idealize.ShloMosaic Cert.ReferenceIdeal Cert.ReferenceIdeal.Gen

/-- Row `p` of the features. -/
abbrev rowOf (x : FVec Ideal S16384x256 .f32) (p : Fin 16384) : Fin 256 → EReal := fun j => x (ix2 p j)

/-- Before level `n` the arrays `r` and `q` hold the residuals and the sums of all rows of `x`. -/
structure Before (cb : FVec Ideal S4x1024x256 .f32) (x : FVec Ideal S16384x256 .f32) (n : ℕ)
    (r q : FVec Ideal S16384x256 .f32) : Prop where
  resid : ∀ p j, r (ix2 p j) = resid refPick (books cb) (rowOf x p) n j
  sums : ∀ p j, q (ix2 p j) = quantized refPick (books cb) (rowOf x p) n j

/-- The array `i` holds the index picked at level `n` for each row of `x`. -/
def Picked (cb : FVec Ideal S4x1024x256 .f32) (x : FVec Ideal S16384x256 .f32) (n : ℕ)
    (i : Vec Ideal S16384 .i32) : Prop :=
  ∀ p, i (ix1 p) = BitVec.ofNat 32 (chosen refPick (books cb) (rowOf x p) n).val

variable {cb : FVec Ideal S4x1024x256 .f32} {x r q q' r' : FVec Ideal S16384x256 .f32} {i : Vec Ideal S16384 .i32}
  {l : Fin 4}

/-- The level picks the index that the recursion picks. -/
theorem IsLevel.picked (h : IsLevel (bookArr cb l) r q i q' r') (hb : Before cb x l.val r q) :
    Picked cb x l.val i := by
  intro p
  have hd : (fun k => distArr (bookArr cb l) r (ix2 p k))
      = refDist (resid refPick (books cb) (rowOf x p) l.val) (books cb l.val) := by
    funext k
    rw [distArr_at]
    simp only [bookArr_at, hb.resid]
  rw [h.idx, argArr_at, hd]
  rfl

/-- After the level the arrays hold what the recursion says one level on. -/
theorem IsLevel.next (h : IsLevel (bookArr cb l) r q i q' r') (hb : Before cb x l.val r q) :
    Before cb x (l.val + 1) r' q' := by
  have ht : ∀ p j, takeArr (bookArr cb l) i (ix2 p j)
      = books cb l.val (chosen refPick (books cb) (rowOf x p) l.val) j := fun p j => by
    rw [takeArr_at _ i p j _ (h.picked hb p), bookArr_at]
  constructor
  · intro p j
    rw [h.res, subf_apply, ht, hb.resid]
    rfl
  · intro p j
    rw [h.sum, addf_apply, ht, hb.sums]
    rfl

end Cert.Rvq

end
-- ==== Proof.RefRun.lean ====
module

public import proofs.«01_k».proof.Proof.RefLevel
public import proofs.«01_k».proof.Proof.Arrays

/-! # What the reference leaves in its two result arrays

The four levels of the line, one after the other, take the recursion from level 0 to level 4. What a
level does not write it leaves alone: the codebooks and the indices of earlier levels. -/

@[expose] public section

set_option maxRecDepth 16384

noncomputable section

namespace Cert.Rvq

open Idealize.ShloMosaic Idealize.SL.Sem Cert.ReferenceIdeal Cert.ReferenceIdeal.Gen

section Line
variable (V : Valuation τ sig (Elt Ideal))

/-- What the buffers hold once the operations before level `n` have run. -/
def upTo : ℕ → Valuation τ sig (Elt Ideal)
  | 0 => StableHlo.after opening V
  | n + 1 => StableHlo.after (stretch n) (upTo n)

/-- The operations before the first level change neither argument. -/
theorem opening_args : upTo V 0 (Proc.devRef .tc main_arg0) = V (Proc.devRef .tc main_arg0)
    ∧ upTo V 0 (Proc.devRef .tc main_arg1) = V (Proc.devRef .tc main_arg1) := by
  constructor <;> (show StableHlo.after opening V _ = _) <;> after_reads_simp

/-- Level 0 leaves the codebooks alone. -/
theorem kept0 : StableHlo.after (stretch 0) V (Proc.devRef .tc main_arg1) = V (Proc.devRef .tc main_arg1) := by
  after_reads_simp

/-- Level 1 leaves the codebooks and the indices before it alone. -/
theorem kept1 : StableHlo.after (stretch 1) V (Proc.devRef .tc main_arg1) = V (Proc.devRef .tc main_arg1)
    ∧ StableHlo.after (stretch 1) V (Proc.devRef .tc main_v20) = V (Proc.devRef .tc main_v20) := by
  refine ⟨?_, ?_⟩ <;> after_reads_simp

/-- Level 2 leaves the codebooks and the indices before it alone. -/
theorem kept2 : StableHlo.after (stretch 2) V (Proc.devRef .tc main_arg1) = V (Proc.devRef .tc main_arg1)
    ∧ StableHlo.after (stretch 2) V (Proc.devRef .tc main_v20) = V (Proc.devRef .tc main_v20)
    ∧ StableHlo.after (stretch 2) V (Proc.devRef .tc main_v43) = V (Proc.devRef .tc main_v43) := by
  refine ⟨?_, ?_, ?_⟩ <;> after_reads_simp

/-- Level 3 leaves the indices before it alone. -/
theorem kept3 : StableHlo.after (stretch 3) V (Proc.devRef .tc main_v20) = V (Proc.devRef .tc main_v20)
    ∧ StableHlo.after (stretch 3) V (Proc.devRef .tc main_v43) = V (Proc.devRef .tc main_v43)
    ∧ StableHlo.after (stretch 3) V (Proc.devRef .tc main_v66) = V (Proc.devRef .tc main_v66) := by
  refine ⟨?_, ?_, ?_⟩ <;> after_reads_simp

/-- The stacking of the indices leaves the sums alone. -/
theorem closing_kept : StableHlo.after closing V (Proc.devRef .tc main_v91) = V (Proc.devRef .tc main_v91) := by
  after_reads_simp

/-- The line changes neither argument. -/
theorem line_args : StableHlo.after line.1 V (Proc.devRef .tc main_arg0) = V (Proc.devRef .tc main_arg0)
    ∧ StableHlo.after line.1 V (Proc.devRef .tc main_arg1) = V (Proc.devRef .tc main_arg1) := by
  refine ⟨?_, ?_⟩ <;> after_reads_simp

/-- Every level finds the codebooks as they were. -/
theorem books_kept : upTo V 0 (Proc.devRef .tc main_arg1) = V (Proc.devRef .tc main_arg1)
    ∧ upTo V 1 (Proc.devRef .tc main_arg1) = V (Proc.devRef .tc main_arg1)
    ∧ upTo V 2 (Proc.devRef .tc main_arg1) = V (Proc.devRef .tc main_arg1)
    ∧ upTo V 3 (Proc.devRef .tc main_arg1) = V (Proc.devRef .tc main_arg1) := by
  have h0 := (opening_args V).2
  have h1 := (kept0 (upTo V 0)).trans h0
  have h2 := (kept1 (upTo V 1)).1.trans h1
  exact ⟨h0, h1, h2, (kept2 (upTo V 2)).1.trans h2⟩

variable (cb : FVec Ideal S4x1024x256 .f32) (x : FVec Ideal S16384x256 .f32)

/-- Before the first level the recursion stands at its start. -/
theorem before_start (hx : V (Proc.devRef .tc main_arg0) = x) :
    Before cb x 0 (upTo V 0 (Proc.devRef .tc main_arg0)) (upTo V 0 (Proc.devRef .tc main_v0)) := by
  constructor
  · intro p j
    rw [(opening_args V).1, hx]
    rfl
  · intro p j
    have e := congrFun (opening_sums V) (ix2 p j)
    refine e.trans ?_
    pointwise [quantized]

/-- After the line the sums and the indices are the recursion's. -/
theorem line_results (hx : V (Proc.devRef .tc main_arg0) = x) (hc : V (Proc.devRef .tc main_arg1) = cb) :
    StableHlo.after line.1 V (Proc.devRef .tc main_v91) = sumsOf refPick cb x
    ∧ StableHlo.after line.1 V (Proc.devRef .tc main_v97) = indicesOf refPick cb x := by
  obtain ⟨c0, c1, c2, c3⟩ := books_kept V
  have b0 := before_start V cb x hx
  have l0 := level0 (upTo V 0); rw [c0, hc] at l0
  have p0 := l0.picked b0
  have b1 := l0.next b0
  have l1 := level1 (upTo V 1); rw [c1, hc] at l1
  have p1 := l1.picked b1
  have b2 := l1.next b1
  have l2 := level2 (upTo V 2); rw [c2, hc] at l2
  have p2 := l2.picked b2
  have b3 := l2.next b2
  have l3 := level3 (upTo V 3); rw [c3, hc] at l3
  have p3 := l3.picked b3
  have b4 := l3.next b3
  have hl : StableHlo.after line.1 V = StableHlo.after closing (upTo V 4) := after_line V
  rw [hl]
  constructor
  · rw [closing_kept]
    funext y
    idx_vars y
    exact b4.sums y0 y1
  · rw [closing_stack]
    have e20 : upTo V 4 (Proc.devRef .tc main_v20) = upTo V 1 (Proc.devRef .tc main_v20) :=
      ((kept3 (upTo V 3)).1.trans (kept2 (upTo V 2)).2.1).trans (kept1 (upTo V 1)).2
    have e43 : upTo V 4 (Proc.devRef .tc main_v43) = upTo V 2 (Proc.devRef .tc main_v43) :=
      (kept3 (upTo V 3)).2.1.trans (kept2 (upTo V 2)).2.2
    have e66 : upTo V 4 (Proc.devRef .tc main_v66) = upTo V 3 (Proc.devRef .tc main_v66) := (kept3 (upTo V 3)).2.2
    rw [e20, e43, e66]
    funext y
    idx_vars y
    refine (stackArr_at ![_, _, _, _] y0 y1).trans ?_
    match y0 with
    | 0 => exact p0 y1
    | 1 => exact p1 y1
    | 2 => exact p2 y1
    | 3 => exact p3 y1

end Line

/-- The reference's run: what its two results hold, its arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v91)
        = sumsOf refPick (m ((c.tc : Thread nD τ).loc main_arg1)) (m ((c.tc : Thread nD τ).loc main_arg0))
      ∧ r.2.mem ((c.tc : Thread nD τ).loc main_v97)
        = indicesOf refPick (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hS : line.1.Forall fun op => op.bufs ⊆ StableHlo.tcRefs τ sig := by simp [line]
  have hfresh : ∀ op ∈ line.1, op.fresh = ∅ := by
    unfold line
    intro _ h
    (repeat (cases h with | head => rfl | tail _ h => ?_))
    exact nomatch h
  refine θ_run_mono (StableHlo.run_hlo _ _ line.2 (by decide) (by decide) hS hfresh m g) fun r h c => ?_
  obtain ⟨r0, r1⟩ := line_results (StableHlo.launchContents m c) _ _ rfl rfl
  obtain ⟨a0, a1⟩ := line_args (StableHlo.launchContents m c)
  exact ⟨(h c _).trans r0, (h c _).trans r1, (h c _).trans a0, (h c _).trans a1⟩

end Cert.Rvq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Precondition
public import proofs.«01_k».proof.Proof.Arrays
public import proofs.«01_k».proof.Proof.RefRun
public import Idealize.ShloMosaic.Adequacy
public import Idealize.ShloMosaic.Init

@[expose] public section

noncomputable section

namespace Cert.Proof

open Idealize.ShloMosaic Idealize.SL.Sem Cert.Rvq

/-- The reference's run ends with its arguments unchanged and every semaphore at zero. -/
theorem frame_reference : Cert.quiescent_ReferenceIdeal (hReferenceIdeal := Cert.ReferenceIdeal.Gen.facts) := fun m g _ =>
  θ_run_mono (reference_run m g) fun _ h => ⟨fun c => (h c).2.2, sem_eq_zero_of_no_sems rfl _⟩

/-- From equal arguments, the codebooks finite, the kernel and the reference end with equal results. -/
theorem results_equal : Cert.algebraic_KernelIdeal_ReferenceIdeal_pre_finite_codebooks
    (hKernelIdeal := Cert.KernelIdeal.Gen.facts) (hReferenceIdeal := Cert.ReferenceIdeal.Gen.facts)
    (hPre_finite_codebooks := preFacts) := by
  intro m g m' g' hpre hagree
  have hf : ∀ c, FiniteBook m c := fun c i => @finite_of_pre preFacts _ _ (hpre c) i
  have hC : ∀ c, FiniteBooks (books (codebooks m c)) := fun c _ _ _ => hf c _
  refine ⟨fun c => sumsOf kerPick (codebooks m c) (features m c), fun c => indicesOf kerPick (codebooks m c) (features m c),
    kernel_run m g hf, θ_run_mono (reference_run m' g') fun r h c => ?_⟩
  obtain ⟨h0, h1, ha0, ha1⟩ := h c
  refine ⟨h0.trans ?_, h1.trans ?_, ha0, ha1⟩
  · rw [(hagree c).1, (hagree c).2]
    funext i
    exact (congrFun (quantized_ker_eq_ref (hC c) _ 4) _).symm
  · rw [(hagree c).1, (hagree c).2]
    funext i
    exact congrArg (fun k : Fin 1024 => BitVec.ofNat 32 k.val) (chosen_ker_eq_ref (hC c) _ _).symm

theorem claim : Cert.Claim := ⟨Cert.Kernel.Gen.facts, Cert.KernelIdeal.Gen.facts, Cert.ReferenceIdeal.Gen.facts, preFacts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  results_equal⟩

end Cert.Proof

end
